-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S512x2048 : Shape := ⟨2, ![512, 2048]⟩
abbrev S512 : Shape := ⟨1, ![512]⟩
abbrev S2048x512 : Shape := ⟨2, ![2048, 512]⟩
abbrev S128x2048 : Shape := ⟨2, ![128, 2048]⟩
abbrev S128 : Shape := ⟨1, ![128]⟩
abbrev S16 : Shape := ⟨1, ![16]⟩
abbrev S512x512 : Shape := ⟨2, ![512, 512]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S128x2048 .f32) (main_arg5 : FVec F S128 .f32) (main_arg6 : FVec F S16 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S1x2048x2048 .f32) (main_arg1 : FVec F S512x2048 .f32) (main_arg2 : FVec F S512 .f32) (main_arg3 : FVec F S2048x512 .f32) (main_arg4 : FVec F S128x2048 .f32) (main_arg5 : FVec F S128 .f32) (main_arg6 : FVec F S16 .f32) (main_arg7 : FVec F S512x512 .f32) (main_arg8 : FVec F S2048x512 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S1x2048x2048 : Shape := ⟨3, ![1, 2048, 2048]⟩
abbrev S512x2048 : Shape := ⟨2, ![512, 2048]⟩
abbrev S512 : Shape := ⟨1, ![512]⟩
abbrev S2048x512 : Shape := ⟨2, ![2048, 512]⟩
abbrev S128x2048 : Shape := ⟨2, ![128, 2048]⟩
abbrev S128 : Shape := ⟨1, ![128]⟩
abbrev S16 : Shape := ⟨1, ![16]⟩
abbrev S512x512 : Shape := ⟨2, ![512, 512]⟩
abbrev S2048x2048 : Shape := ⟨2, ![2048, 2048]⟩
abbrev S1x512 : Shape := ⟨2, ![1, 512]⟩
abbrev S1x128 : Shape := ⟨2, ![1, 128]⟩
abbrev S1x16 : Shape := ⟨2, ![1, 16]⟩
abbrev S256x2048 : Shape := ⟨2, ![256, 2048]⟩
abbrev S2048x128 : Shape := ⟨2, ![2048, 128]⟩
abbrev S4096x128 : Shape := ⟨2, ![4096, 128]⟩
abbrev S4096x1 : Shape := ⟨2, ![4096, 1]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x1 : Shape := ⟨2, ![1, 1]⟩
abbrev S512x128 : Shape := ⟨2, ![512, 128]⟩
abbrev S4096x512 : Shape := ⟨2, ![4096, 512]⟩
abbrev S4096 : Shape := ⟨1, ![4096]⟩
abbrev S128x512 : Shape := ⟨2, ![128, 512]⟩

abbrev nBuf : Space → Nat
  | .hbm => 15
  | .vmem => 21
  | .smem => 0
  | _ => 0

abbrev bufTy : (tb : Table) → Fin (tcTables nBuf tb) → BufTy
  | .hbm, ⟨0, _⟩ => ⟨S1x2048x2048, .f32⟩
  | .hbm, ⟨1, _⟩ => ⟨S512x2048, .f32⟩
  | .hbm, ⟨2, _⟩ => ⟨S512, .f32⟩
  | .hbm, ⟨3, _⟩ => ⟨S2048x512, .f32⟩
  | .hbm, ⟨4, _⟩ => ⟨S128x2048, .f32⟩
  | .hbm, ⟨5, _⟩ => ⟨S128, .f32⟩
  | .hbm, ⟨6, _⟩ => ⟨S16, .f32⟩
  | .hbm, ⟨7, _⟩ => ⟨S512x512, .f32⟩
  | .hbm, ⟨8, _⟩ => ⟨S2048x512, .f32⟩
  | .hbm, ⟨9, _⟩ => ⟨S2048x2048, .f32⟩
  | .hbm, ⟨10, _⟩ => ⟨S1x512, .f32⟩
  | .hbm, ⟨11, _⟩ => ⟨S1x128, .f32⟩
  | .hbm, ⟨12, _⟩ => ⟨S1x16, .f32⟩
  | .hbm, ⟨13, _⟩ => ⟨S2048x2048, .f32⟩
  | .hbm, ⟨14, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S1x512, .f32⟩
  | .local _ .vmem, ⟨4, _⟩ => ⟨S2048x512, .f32⟩
  | .local _ .vmem, ⟨5, _⟩ => ⟨S128x2048, .f32⟩
  | .local _ .vmem, ⟨6, _⟩ => ⟨S1x128, .f32⟩
  | .local _ .vmem, ⟨7, _⟩ => ⟨S1x16, .f32⟩
  | .local _ .vmem, ⟨8, _⟩ => ⟨S512x512, .f32⟩
  | .local _ .vmem, ⟨9, _⟩ => ⟨S2048x512, .f32⟩
  | .local _ .vmem, ⟨10, _⟩ => ⟨S256x2048, .f32⟩
  | .local _ .vmem, ⟨11, _⟩ => ⟨S256x2048, .f32⟩
  | .local _ .vmem, ⟨12, _⟩ => ⟨S2048x128, .bf16⟩
  | .local _ .vmem, ⟨13, _⟩ => ⟨S4096x128, .bf16⟩
  | .local _ .vmem, ⟨14, _⟩ => ⟨S4096x128, .f32⟩
  | .local _ .vmem, ⟨15, _⟩ => ⟨S4096x1, .f32⟩
  | .local _ .vmem, ⟨16, _⟩ => ⟨S512x2048, .bf16⟩
  | .local _ .vmem, ⟨17, _⟩ => ⟨S2048x512, .bf16⟩
  | .local _ .vmem, ⟨18, _⟩ => ⟨S128x2048, .bf16⟩
  | .local _ .vmem, ⟨19, _⟩ => ⟨S512x512, .bf16⟩
  | .local _ .vmem, ⟨20, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c256_i32 : BitVec 32 := 256#32
  let v36 : BitVec 32 := Scalar.muli arg0 c256_i32
  let v37 : Index := Scalar.indexCast v36
  let c0_15 : Index := 0#32
  ![v37.toNat, 0]
def k0_cond3 (i : grid0.Coords) : BitVec 1 :=
  let c2_i32 : BitVec 32 := 2#32
  let arg1 : BitVec 32 := BitVec.ofNat 32 (i 1).val
  let v8 : BitVec 32 := Scalar.muli c2_i32 arg1
  let arg0 : BitVec 32 := BitVec.ofNat 32 (i 0).val
  let v9 : BitVec 1 := Scalar.cmpi .sle v8 arg0
  let v10 : BitVec 32 := Scalar.extui v9
  let c0_i32_4 : BitVec 32 := 0#32
  let v11 : BitVec 1 := Scalar.cmpi .ne v10 c0_i32_4
  v11

def k0_off2 (i : grid0.Coords) : Fin 2 → Nat :=
  let arg1 : BitVec 32 := BitVec.ofNat 32 (i 1).val
  let c512_i32 : BitVec 32 := 512#32
  let v16 : BitVec 32 := Scalar.muli arg1 c512_i32
  let v17 : Index := Scalar.indexCast v16
  let c0 : Index := 0#32
  ![v17.toNat, 0]
def k0_cond4 (i : grid0.Coords) : BitVec 1 :=
  let arg1 : BitVec 32 := BitVec.ofNat 32 (i 1).val
  let arg0 : BitVec 32 := BitVec.ofNat 32 (i 0).val
  let c2_i32_5 : BitVec 32 := 2#32
  let v12 : BitVec 32 := Scalar.divsi arg0 c2_i32_5
  let v13 : BitVec 1 := Scalar.cmpi .eq arg1 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2e" => some (((Real.log 2)⁻¹ : ℝ) : EReal)
  | "qscale" => some (((Real.log 2)⁻¹ * (Real.sqrt 128)⁻¹ : ℝ) : EReal)
  | _ => none
-- ==== ReferenceIdeal.lean ====
abbrev S1x2048x2048 : Shape := ⟨3, ![1, 2048, 2048]⟩
abbrev S512x2048 : Shape := ⟨2, ![512, 2048]⟩
abbrev S512 : Shape := ⟨1, ![512]⟩
abbrev S2048x512 : Shape := ⟨2, ![2048, 512]⟩
abbrev S128x2048 : Shape := ⟨2, ![128, 2048]⟩
abbrev S128 : Shape := ⟨1, ![128]⟩
abbrev S16 : Shape := ⟨1, ![16]⟩
abbrev S512x512 : Shape := ⟨2, ![512, 512]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x2048x16x128 : Shape := ⟨4, ![1, 2048, 16, 128]⟩
abbrev S2048x128 : Shape := ⟨2, ![2048, 128]⟩
abbrev S1x2048x128 : Shape := ⟨3, ![1, 2048, 128]⟩
abbrev S1x1x128 : Shape := ⟨3, ![1, 1, 128]⟩
abbrev S1x2048x2048x16 : Shape := ⟨4, ![1, 2048, 2048, 16]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x1x1 : Shape := ⟨4, ![1, 16, 1, 1]⟩
abbrev S1x16x2048x1 : Shape := ⟨4, ![1, 16, 2048, 1]⟩
abbrev S1x16x2048x2049 : Shape := ⟨4, ![1, 16, 2048, 2049]⟩
abbrev S1x16x2048 : Shape := ⟨3, ![1, 16, 2048]⟩
abbrev S1x128x16x2048 : Shape := ⟨4, ![1, 128, 16, 2048]⟩
abbrev S1x2048x4x512 : Shape := ⟨4, ![1, 2048, 4, 512]⟩
abbrev S4x128x512 : Shape := ⟨3, ![4, 128, 512]⟩
abbrev S4x128x1x2048 : Shape := ⟨4, ![4, 128, 1, 2048]⟩
abbrev S1x2048x4x128 : Shape := ⟨4, ![1, 2048, 4, 128]⟩

abbrev nBuf : Space → Nat
  | .hbm => 100
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S512x2048, .f32⟩
  | .hbm, ⟨2, _⟩ => ⟨S512, .f32⟩
  | .hbm, ⟨3, _⟩ => ⟨S2048x512, .f32⟩
  | .hbm, ⟨4, _⟩ => ⟨S128x2048, .f32⟩
  | .hbm, ⟨5, _⟩ => ⟨S128, .f32⟩
  | .hbm, ⟨6, _⟩ => ⟨S16, .f32⟩
  | .hbm, ⟨7, _⟩ => ⟨S512x512, .f32⟩
  | .hbm, ⟨8, _⟩ => ⟨S2048x512, .f32⟩
  | .hbm, ⟨9, _⟩ => ⟨S2048x512, .f32⟩
  | .hbm, ⟨10, _⟩ => ⟨S1x2048x512, .f32⟩
  | .hbm, ⟨11, _⟩ => ⟨S1x2048x512, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S1x2048x512, .f32⟩
  | .hbm, ⟨23, _⟩ => ⟨S1x2048x512, .f32⟩
  | .hbm, ⟨24, _⟩ => ⟨S1x1x512, .f32⟩
  | .hbm, ⟨25, _⟩ => ⟨S1x2048x512, .f32⟩
  | .hbm, ⟨26, _⟩ => ⟨S1x2048x512, .f32⟩
  | .hbm, ⟨27, _⟩ => ⟨S512x2048, .f32⟩
  | .hbm, ⟨28, _⟩ => ⟨S1x2048x2048, .f32⟩
  | .hbm, ⟨29, _⟩ => ⟨S1x2048x16x128, .f32⟩
  | .hbm, ⟨30, _⟩ => ⟨S2048x128, .f32⟩
  | .hbm, ⟨31, _⟩ => ⟨S1x2048x128, .f32⟩
  | .hbm, ⟨32, _⟩ => ⟨S1x2048x128, .f32⟩
  | .hbm, ⟨33, _⟩ => ⟨S_, .f32⟩
  | .hbm, ⟨34, _⟩ => ⟨S1x2048, .f32⟩
  | .hbm, ⟨35, _⟩ => ⟨S1x2048x1, .f32⟩
  | .hbm, ⟨36, _⟩ => ⟨S_, .f32⟩
  | .hbm, ⟨37, _⟩ => ⟨S1x2048x1, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x1, .f32⟩
  | .hbm, ⟨43, _⟩ => ⟨S1x2048x128, .f32⟩
  | .hbm, ⟨44, _⟩ => ⟨S1x2048x128, .f32⟩
  | .hbm, ⟨45, _⟩ => ⟨S1x1x128, .f32⟩
  | .hbm, ⟨46, _⟩ => ⟨S1x2048x128, .f32⟩
  | .hbm, ⟨47, _⟩ => ⟨S1x2048x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x2048x2048x16, .f32⟩
  | .hbm, ⟨53, _⟩ => ⟨S1x16x2048x2048, .f32⟩
  | .hbm, ⟨54, _⟩ => ⟨S1x16x2048x2048, .f32⟩
  | .hbm, ⟨55, _⟩ => ⟨S1x16x2048x2048, .f32⟩
  | .hbm, ⟨56, _⟩ => ⟨S_, .i1⟩
  | .hbm, ⟨57, _⟩ => ⟨S2048x2048, .i1⟩
  | .hbm, ⟨58, _⟩ => ⟨S2048x2048, .i32⟩
  | .hbm, ⟨59, _⟩ => ⟨S_, .i32⟩
  | .hbm, ⟨60, _⟩ => ⟨S2048x2048, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S_, .i1⟩
  | .hbm, ⟨65, _⟩ => ⟨S2048x2048, .i1⟩
  | .hbm, ⟨66, _⟩ => ⟨S2048x2048, .i1⟩
  | .hbm, ⟨67, _⟩ => ⟨S1x1x2048x2048, .i1⟩
  | .hbm, ⟨68, _⟩ => ⟨S_, .f32⟩
  | .hbm, ⟨69, _⟩ => ⟨S_, .f32⟩
  | .hbm, ⟨70, _⟩ => ⟨S1x16x2048x2048, .i1⟩
  | .hbm, ⟨71, _⟩ => ⟨S1x16x2048x2048, .f32⟩
  | .hbm, ⟨72, _⟩ => ⟨S1x16x2048x2048, .f32⟩
  | .hbm, ⟨73, _⟩ => ⟨S1x16x1x1, .f32⟩
  | .hbm, ⟨74, _⟩ => ⟨S1x16x2048x1, .f32⟩
  | .hbm, ⟨75, _⟩ => ⟨S1x16x2048x2049, .f32⟩
  | .hbm, ⟨76, _⟩ => ⟨S_, .f32⟩
  | .hbm, ⟨77, _⟩ => ⟨S1x16x2048, .f32⟩
  | .hbm, ⟨78, _⟩ => ⟨S_, .f32⟩
  | .hbm, ⟨79, _⟩ => ⟨S1x16x2048, .f32⟩
  | .hbm, ⟨80, _⟩ => ⟨S1x16x2048, .f32⟩
  | .hbm, ⟨81, _⟩ => ⟨S1x16x2048x1, .f32⟩
  | .hbm, ⟨82, _⟩ => ⟨S1x16x2048x2049, .f32⟩
  | .hbm, ⟨83, _⟩ => ⟨S1x16x2048x2049, .f32⟩
  | .hbm, ⟨84, _⟩ => ⟨S1x16x2048x2049, .f32⟩
  | .hbm, ⟨85, _⟩ => ⟨S_, .f32⟩
  | .hbm, ⟨86, _⟩ => ⟨S1x16x2048, .f32⟩
  | .hbm, ⟨87, _⟩ => ⟨S1x16x2048x1, .f32⟩
  | .hbm, ⟨88, _⟩ => ⟨S1x16x2048x2049, .f32⟩
  | .hbm, ⟨89, _⟩ => ⟨S1x16x2048x2049, .f32⟩
  | .hbm, ⟨90, _⟩ => ⟨S1x16x2048x2048, .f32⟩
  | .hbm, ⟨91, _⟩ => ⟨S1x128x16x2048, .f32⟩
  | .hbm, ⟨92, _⟩ => ⟨S1x2048x16x128, .f32⟩
  | .hbm, ⟨93, _⟩ => ⟨S1x2048x4x512, .f32⟩
  | .hbm, ⟨94, _⟩ => ⟨S4x128x512, .f32⟩
  | .hbm, ⟨95, _⟩ => ⟨S4x128x1x2048, .f32⟩
  | .hbm, ⟨96, _⟩ => ⟨S1x2048x4x128, .f32⟩
  | .hbm, ⟨97, _⟩ => ⟨S1x2048x512, .f32⟩
  | .hbm, ⟨98, _⟩ => ⟨S512x2048, .f32⟩
  | .hbm, ⟨99, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]
-- ==== Proof.Phases.lean ====
/- The kernel's body as four phases run one after another: set-up of the whole launch, set-up of a query block, one key
   block's share of the attention sums, and the result block. -/
module

public import proofs.«01_k».proof.Proof.Gen.KernelIdeal.Skeleton

@[expose] public section

set_option maxRecDepth 16384

noncomputable section

namespace Cert.KernelIdeal.Hand

open Idealize.ShloMosaic Idealize.ShloMosaic.TcCoe
open Idealize.SL Idealize.SL.Sem
open Cert.KernelIdeal.Gen

variable {F : FTy → Type} [FloatOps F] [Named F]

/-- The first grid point, as the body decides it. -/
def k0_first (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- Phase one: at the very first grid point the five weight blocks are rounded into their own scratch and the key/value rows are cleared. -/
def phase1 (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) :
    Prog (TpuEff nD τ sig (Elt F) Λ₀ .tc) PUnit :=
  if k0_h1 : k0_first i = 1#1 then do
    let v16 : Vec F S512x2048 .f32 ← Prog.lift (.load arg3 (Rect.unit (s := S512x2048) ![0, 0] S512x2048.size inb_S512x2048_S512x2048_0_0).toLoadRect (View.loadsAt_vmem h_S512x2048))
    let v18 : Vec F S512x2048 .bf16 ← Prog.lift (.load arg16 (Rect.unit (s := S512x2048) ![0, 0] S512x2048.size inb_S512x2048_S512x2048_0_0).toLoadRect (View.loadsAt_vmem h_S512x2048))
    Prog.lift (.store arg16 (Rect.unit (s := S512x2048) ![0, 0] S512x2048.size inb_S512x2048_S512x2048_0_0) (k0_pay1 v16) Finset.univ (View.stores_vmem h_S512x2048 (harg16.storeExact_slice rfl _ packedbf16_S512x2048_S512x2048_0_0) (fun _ => rfl)) (.inl rfl))
    let v21 : Vec F S2048x512 .f32 ← Prog.lift (.load arg5 (Rect.unit (s := S2048x512) ![0, 0] S2048x512.size inb_S2048x512_S2048x512_0_0).toLoadRect (View.loadsAt_vmem h_S2048x512))
    let v23 : Vec F S2048x512 .bf16 ← Prog.lift (.load arg17 (Rect.unit (s := S2048x512) ![0, 0] S2048x512.size inb_S2048x512_S2048x512_0_0).toLoadRect (View.loadsAt_vmem h_S2048x512))
    Prog.lift (.store arg17 (Rect.unit (s := S2048x512) ![0, 0] S2048x512.size inb_S2048x512_S2048x512_0_0) (k0_pay2 v21) Finset.univ (View.stores_vmem h_S2048x512 (harg17.storeExact_slice rfl _ packedbf16_S2048x512_S2048x512_0_0) (fun _ => rfl)) (.inl rfl))
    let v26 : Vec F S128x2048 .f32 ← Prog.lift (.load arg6 (Rect.unit (s := S128x2048) ![0, 0] S128x2048.size inb_S128x2048_S128x2048_0_0).toLoadRect (View.loadsAt_vmem h_S128x2048))
    let v28 : Vec F S128x2048 .bf16 ← Prog.lift (.load arg18 (Rect.unit (s := S128x2048) ![0, 0] S128x2048.size inb_S128x2048_S128x2048_0_0).toLoadRect (View.loadsAt_vmem h_S128x2048))
    Prog.lift (.store arg18 (Rect.unit (s := S128x2048) ![0, 0] S128x2048.size inb_S128x2048_S128x2048_0_0) (k0_pay3 v26) Finset.univ (View.stores_vmem h_S128x2048 (harg18.storeExact_slice rfl _ packedbf16_S128x2048_S128x2048_0_0) (fun _ => rfl)) (.inl rfl))
    let v31 : Vec F S512x512 .f32 ← Prog.lift (.load arg9 (Rect.unit (s := S512x512) ![0, 0] S512x512.size inb_S512x512_S512x512_0_0).toLoadRect (View.loadsAt_vmem h_S512x512))
    let v33 : Vec F S512x512 .bf16 ← Prog.lift (.load arg19 (Rect.unit (s := S512x512) ![0, 0] S512x512.size inb_S512x512_S512x512_0_0).toLoadRect (View.loadsAt_vmem h_S512x512))
    Prog.lift (.store arg19 (Rect.unit (s := S512x512) ![0, 0] S512x512.size inb_S512x512_S512x512_0_0) (k0_pay4 v31) Finset.univ (View.stores_vmem h_S512x512 (harg19.storeExact_slice rfl _ packedbf16_S512x512_S512x512_0_0) (fun _ => rfl)) (.inl rfl))
    let v36 : Vec F S2048x512 .f32 ← Prog.lift (.load arg10 (Rect.unit (s := S2048x512) ![0, 0] S2048x512.size inb_S2048x512_S2048x512_0_0).toLoadRect (View.loadsAt_vmem h_S2048x512))
    let v38 : Vec F S2048x512 .bf16 ← Prog.lift (.load arg20 (Rect.unit (s := S2048x512) ![0, 0] S2048x512.size inb_S2048x512_S2048x512_0_0).toLoadRect (View.loadsAt_vmem h_S2048x512))
    Prog.lift (.store arg20 (Rect.unit (s := S2048x512) ![0, 0] S2048x512.size inb_S2048x512_S2048x512_0_0) (k0_pay5 v36) Finset.univ (View.stores_vmem h_S2048x512 (harg20.storeExact_slice rfl _ packedbf16_S2048x512_S2048x512_0_0) (fun _ => rfl)) (.inl rfl))
    let v42 : Vec F S2048x128 .bf16 ← Prog.lift (.load arg12 (Rect.unit (s := S2048x128) ![0, 0] S2048x128.size inb_S2048x128_S2048x128_0_0).toLoadRect (View.loadsAt_vmem h_S2048x128))
    Prog.lift (.store arg12 (Rect.unit (s := S2048x128) ![0, 0] S2048x128.size inb_S2048x128_S2048x128_0_0) (k0_pay6 (F := F)) Finset.univ (View.stores_vmem h_S2048x128 (harg12.storeExact_slice rfl _ packedbf16_S2048x128_S2048x128_0_0) (fun _ => rfl)) (.inl rfl))
    pure ⟨⟩
  else do
    pure ⟨⟩

/-- Phase two: at the first key block of a query block, write the query block's own key/value rows, its stacked query rows, a zero accumulator and the denominators' first term. -/
def phase2 (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) :
    Prog (TpuEff nD τ sig (Elt F) Λ₀ .tc) PUnit :=
  if k0_h2 : k0_cond2 i = 1#1 then do
    let ⟨v52, v54⟩ : Σ' (v52 : FVec F S256x512 .f32), FVec F S1x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) k0_h2
    let ⟨v91, v94, v97, v100⟩ : Σ' (v91 : FVec F S1x16 .f32) (v94 : FVec F S256x1 .f32) (v97 : FVec F S256x1 .f32), FVec F S256x1 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v52 v54
    let v141 : Vec F S4096x1 .f32 ← Prog.lift (.load arg15 (Rect.unit (s := S4096x1) ![0, 0] S4096x1.size inb_S4096x1_S4096x1_0_0).toLoadRect (View.loadsAt_vmem h_S4096x1))
    Prog.lift (.store arg15 (Rect.unit (s := S4096x1) ![0, 0] S4096x1.size inb_S4096x1_S4096x1_0_0) (k0_pay7 v91 v94 v97 v100) Finset.univ (View.stores_vmem_bits_univ h_S4096x1 rfl) (.inl rfl))
    pure ⟨⟩
  else do
    pure ⟨⟩

/-- Phase three: one key block is folded into the accumulator and the denominators. -/
def phase3 (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) :
    Prog (TpuEff nD τ sig (Elt F) Λ₀ .tc) PUnit :=
  if k0_h3 : k0_cond3 i = 1#1 then do
    let v18 : Vec F S512x128 .bf16 ← Prog.lift (.load arg12 (Rect.unit (s := S2048x128) (k0_off2 i) S512x128.size (k0_off2_inb i k0_h3)).toLoadRect (View.loadsAt_vmem h_S512x128))
    let v19 : Vec F S4096x128 .bf16 ← Prog.lift (.load arg13 (Rect.unit (s := S4096x128) ![0, 0] S4096x128.size inb_S4096x128_S4096x128_0_0).toLoadRect (View.loadsAt_vmem h_S4096x128))
    let v35 : Vec F S4096x1 .f32 ← Prog.lift (.load arg15 (Rect.unit (s := S4096x1) ![0, 0] S4096x1.size inb_S4096x1_S4096x1_0_0).toLoadRect (View.loadsAt_vmem h_S4096x1))
    let v39 : Vec F S4096x1 .f32 ← Prog.lift (.load arg15 (Rect.unit (s := S4096x1) ![0, 0] S4096x1.size inb_S4096x1_S4096x1_0_0).toLoadRect (View.loadsAt_vmem h_S4096x1))
    Prog.lift (.store arg15 (Rect.unit (s := S4096x1) ![0, 0] S4096x1.size inb_S4096x1_S4096x1_0_0) (k0_pay9 i v18 v19 v35) Finset.univ (View.stores_vmem_bits_univ h_S4096x1 rfl) (.inl rfl))
    let v42 : Vec F S4096x128 .f32 ← Prog.lift (.load arg14 (Rect.unit (s := S4096x128) ![0, 0] S4096x128.size inb_S4096x128_S4096x128_0_0).toLoadRect (View.loadsAt_vmem h_S4096x128))
    let v46 : Vec F S4096x128 .f32 ← Prog.lift (.load arg14 (Rect.unit (s := S4096x128) ![0, 0] S4096x128.size inb_S4096x128_S4096x128_0_0).toLoadRect (View.loadsAt_vmem h_S4096x128))
    Prog.lift (.store arg14 (Rect.unit (s := S4096x128) ![0, 0] S4096x128.size inb_S4096x128_S4096x128_0_0) (k0_pay10 i v18 v19 v42) Finset.univ (View.stores_vmem_bits_univ h_S4096x128 rfl) (.inl rfl))
    pure ⟨⟩
  else do
    pure ⟨⟩

/-- Phase four: the last key block writes the result block. -/
def phase4 (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) :
    Prog (TpuEff nD τ sig (Elt F) Λ₀ .tc) PUnit :=
  if k0_h4 : k0_cond4 i = 1#1 then do
    let v56 : FVec F S256x2048 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    let v57 : Vec F S256x2048 .f32 ← Prog.lift (.load arg11 (Rect.unit (s := S256x2048) ![0, 0] S256x2048.size inb_S256x2048_S256x2048_0_0).toLoadRect (View.loadsAt_vmem h_S256x2048))
    Prog.lift (.store arg11 (Rect.unit (s := S256x2048) ![0, 0] S256x2048.size inb_S256x2048_S256x2048_0_0) v56 Finset.univ (View.stores_vmem_bits_univ h_S256x2048 rfl) (.inl rfl))
    pure ⟨⟩
  else do
    pure ⟨⟩

/-- What follows a conditional may be moved into both of its branches. -/
theorem bind_ite_eq {α β : Type} {c : Prop} [Decidable c] (A : c → Prog (TpuEff nD τ sig (Elt F) Λ₀ .tc) α)
    (B : ¬c → Prog (TpuEff nD τ sig (Elt F) Λ₀ .tc) α) (k : α → Prog (TpuEff nD τ sig (Elt F) Λ₀ .tc) β) :
    (if h : c then A h else B h).bind k = if h : c then (A h).bind k else (B h).bind k := by
  split <;> rfl

/-- The body is the four phases in turn. -/
theorem body_phases (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) :
    cc0__body_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = (phase1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).bind fun _ => (phase2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).bind fun _ => (phase3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).bind fun _ => (phase4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).bind fun _ => pure ⟨⟩ := by
  unfold phase1 phase2 phase3 phase4
  simp only [bind_ite_eq]
  rfl

end Cert.KernelIdeal.Hand

end
-- ==== Proof.PhaseRuns.lean ====
/- What each phase of the body leaves in the buffers it writes, as plain functions of the contents it finds. -/
module

public import proofs.«01_k».proof.Proof.Phases
public import proofs.«01_k».proof.Proof.Gen.KernelIdeal.Points
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A block of 256 rows at a query block's offset lies inside the 2048 key/value rows. -/
theorem inb_q (i : grid0.Coords) : ∀ a, (![256 * (i 0).val, 0] : Fin 2 → ℕ) a + S256x128.size a ≤ S2048x128.size a := by
  have h : (i 0).val < 8 := (i 0).isLt
  rw [Fin.forall_fin_two]
  exact ⟨show 256 * (i 0).val + 256 ≤ 2048 by omega, show 0 + 128 ≤ 128 by omega⟩

/-- A block of 512 rows at a key block's offset lies inside the 2048 key/value rows. -/
theorem inb_k (i : grid0.Coords) : ∀ a, (![512 * (i 1).val, 0] : Fin 2 → ℕ) a + S512x128.size a ≤ S2048x128.size a := by
  have h : (i 1).val < 4 := (i 1).isLt
  rw [Fin.forall_fin_two]
  exact ⟨show 512 * (i 1).val + 512 ≤ 2048 by omega, show 0 + 128 ≤ 128 by omega⟩

/-- The key/value rows with a query block's own rows written over them. -/
def putRows (i : grid0.Coords) (x : Vec F S2048x128 .bf16) (w : Vec F S256x128 .bf16) : Vec F S2048x128 .bf16 :=
  VecWindow.put x ![256 * (i 0).val, 0] S256x128.size w

/-- The key block's 512 key/value rows. -/
def keyRows (i : grid0.Coords) (x : Vec F S2048x128 .bf16) : Vec F S512x128 .bf16 :=
  VecWindow.window x ![512 * (i 1).val, 0] S512x128.size (inb_k i)

/-- The 128 rows of the rounded down-projection weight that belong to one group of heads. -/
def groupRows0 (x : Vec F S512x512 .bf16) : Vec F S128x512 .bf16 := VecWindow.window x ![0, 0] S128x512.size inb_S512x512_S128x512_0_0
/-- The second group's rows. -/
def groupRows1 (x : Vec F S512x512 .bf16) : Vec F S128x512 .bf16 := VecWindow.window x ![128, 0] S128x512.size inb_S512x512_S128x512_128_0
/-- The third group's rows. -/
def groupRows2 (x : Vec F S512x512 .bf16) : Vec F S128x512 .bf16 := VecWindow.window x ![256, 0] S128x512.size inb_S512x512_S128x512_256_0
/-- The fourth group's rows. -/
def groupRows3 (x : Vec F S512x512 .bf16) : Vec F S128x512 .bf16 := VecWindow.window x ![384, 0] S128x512.size inb_S512x512_S128x512_384_0

/-- A load of one group's rows, by values. -/
theorem readAt_group0 (v : View sig .tc .vmem S512x512 .bf16) (f : v.ty.Contents (Elt F)) :
    v.readAt (Elt F) (Rect.unit (s := S512x512) ![0, 0] S128x512.size inb_S512x512_S128x512_0_0).toLoadRect f = groupRows0 (v.read (Elt F) f) := rfl

/-- A load of one group's rows, by values. -/
theorem readAt_group1 (v : View sig .tc .vmem S512x512 .bf16) (f : v.ty.Contents (Elt F)) :
    v.readAt (Elt F) (Rect.unit (s := S512x512) ![128, 0] S128x512.size inb_S512x512_S128x512_128_0).toLoadRect f = groupRows1 (v.read (Elt F) f) := rfl

/-- A load of one group's rows, by values. -/
theorem readAt_group2 (v : View sig .tc .vmem S512x512 .bf16) (f : v.ty.Contents (Elt F)) :
    v.readAt (Elt F) (Rect.unit (s := S512x512) ![256, 0] S128x512.size inb_S512x512_S128x512_256_0).toLoadRect f = groupRows2 (v.read (Elt F) f) := rfl

/-- A load of one group's rows, by values. -/
theorem readAt_group3 (v : View sig .tc .vmem S512x512 .bf16) (f : v.ty.Contents (Elt F)) :
    v.readAt (Elt F) (Rect.unit (s := S512x512) ![384, 0] S128x512.size inb_S512x512_S128x512_384_0).toLoadRect f = groupRows3 (v.read (Elt F) f) := rfl

/-- The result block, from the accumulator, the denominators and the two rounded output weights. -/
def resultBlock (acc : Vec F S4096x128 .f32) (den : Vec F S4096x1 .f32) (wd : Vec F S512x512 .bf16) (wu : Vec F S2048x512 .bf16) : Vec F S256x2048 .f32 :=
  k0_pay21 acc den (groupRows0 wd) (groupRows1 wd) (groupRows2 wd) (groupRows3 wd) wu

/-- The denominators' first term: each head's sink. -/
def sinkBlock (x8 : Vec F S1x16 .f32) : Vec F S4096x1 .f32 := k0_pay7 (k0_pay17 x8) (k0_pay18 x8) (k0_pay19 x8) (k0_pay20 x8)

/-- A query block's stacked query rows. -/
def queryBlock (x2 : Vec F S256x2048 .f32) (x16 : Vec F S512x2048 .bf16) (x4 : Vec F S1x512 .f32) (x17 : Vec F S2048x512 .bf16) : Vec F S4096x128 .bf16 :=
  k0_pay15 (k0_pay13 x2 x16) (k0_pay14 x4) x17

/-- The set-up of the launch: the five rounded weights and the cleared rows. -/
theorem phase1_run (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : k0_first i = 1#1)
    (x3 : Vec F S512x2048 .f32) (x5 : Vec F S2048x512 .f32) (x6 : Vec F S128x2048 .f32) (x9 : Vec F S512x512 .f32) (x10 : Vec F S2048x512 .f32)
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg9 fullShare x9 ∗ owns (c : Thread nD τ) arg10 fullShare x10 ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg3 fullShare x3 ∗ owns (c : Thread nD τ) arg5 fullShare x5 ∗ owns (c : Thread nD τ) arg6 fullShare x6 ∗ owns (c : Thread nD τ) arg9 fullShare x9 ∗ owns (c : Thread nD τ) arg10 fullShare x10 ∗ owns (c : Thread nD τ) arg12 fullShare (k0_pay6) ∗ owns (c : Thread nD τ) arg16 fullShare (k0_pay1 x3) ∗ owns (c : Thread nD τ) arg17 fullShare (k0_pay2 x5) ∗ owns (c : Thread nD τ) arg18 fullShare (k0_pay3 x6) ∗ owns (c : Thread nD τ) arg19 fullShare (k0_pay4 x9) ∗ owns (c : Thread nD τ) arg20 fullShare (k0_pay5 x10)) -∗ K ⟨⟩))
      ⊢ wp frame (wpE (defs₀ (F := F)) Variants.none c none) E (phase1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase1
  unfold owns
  iintro ⟨⟨%f3, %hf3, H3⟩, ⟨%f5, %hf5, H5⟩, ⟨%f6, %hf6, H6⟩, ⟨%f9, %hf9, H9⟩, ⟨%f10, %hf10, H10⟩, ⟨%d12, %f12, -, H12⟩, ⟨%d16, %f16, -, H16⟩, ⟨%d17, %f17, -, H17⟩, ⟨%d18, %f18, -, H18⟩, ⟨%d19, %f19, -, H19⟩, ⟨%d20, %f20, -, H20⟩, Hk⟩
  obtain rfl := harg3.eq_unread hf3
  obtain rfl := harg5.eq_unread hf5
  obtain rfl := harg6.eq_unread hf6
  obtain rfl := harg9.eq_unread hf9
  obtain rfl := harg10.eq_unread hf10
  sl_exec (disch := sl_exact hc)
  sl_step
  iapply Hk
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr; · ipureintro; exact harg10.read_unread _
    iexact H10
  isplitl [H12]
  · iexists _; isplitr
    swap; · iexact H12
    ipureintro; refine (View.read_writes_full _ _ _ _ _).trans ?_; (repeat rw [View.readAt_full]); (repeat rw [Memref.IsWhole.read_unread]); (first | done | rfl)
  isplitl [H16]
  · iexists _; isplitr
    swap; · iexact H16
    ipureintro; refine (View.read_writes_full _ _ _ _ _).trans ?_; (repeat rw [View.readAt_full]); (repeat rw [Memref.IsWhole.read_unread]); (first | done | rfl)
  isplitl [H17]
  · iexists _; isplitr
    swap; · iexact H17
    ipureintro; refine (View.read_writes_full _ _ _ _ _).trans ?_; (repeat rw [View.readAt_full]); (repeat rw [Memref.IsWhole.read_unread]); (first | done | rfl)
  isplitl [H18]
  · iexists _; isplitr
    swap; · iexact H18
    ipureintro; refine (View.read_writes_full _ _ _ _ _).trans ?_; (repeat rw [View.readAt_full]); (repeat rw [Memref.IsWhole.read_unread]); (first | done | rfl)
  isplitl [H19]
  · iexists _; isplitr
    swap; · iexact H19
    ipureintro; refine (View.read_writes_full _ _ _ _ _).trans ?_; (repeat rw [View.readAt_full]); (repeat rw [Memref.IsWhole.read_unread]); (first | done | rfl)
  iexists _; isplitr
  swap; · iexact H20
  ipureintro; refine (View.read_writes_full _ _ _ _ _).trans ?_; (repeat rw [View.readAt_full]); (repeat rw [Memref.IsWhole.read_unread]); (first | done | rfl)

/-- Where the phase is not due, nothing happens. -/
theorem phase1_skip (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : ¬ k0_first i = 1#1) (E : Set ℕ) (K : PUnit → sProp 𝕄) :
    K ⟨⟩ ⊢ wp frame (wpE (defs₀ (F := F)) Variants.none c none) E (phase1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase1
  rw [dif_neg hc]
  iintro H
  sl_step
  iexact H

/-- The set-up of a query block. -/
theorem phase2_run (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : k0_cond2 i = 1#1)
    (x2 : Vec F S256x2048 .f32) (x4 : Vec F S1x512 .f32) (x7 : Vec F S1x128 .f32) (x8 : Vec F S1x16 .f32) (x12 : Vec F S2048x128 .bf16) (x16 : Vec F S512x2048 .bf16) (x17 : Vec F S2048x512 .bf16) (x18 : Vec F S128x2048 .bf16)
    (E : Set ℕ) (K : PUnit → sProp 𝕄) :
    iprop(owns (c : Thread nD τ) arg2 fullShare x2 ∗ owns (c : Thread nD τ) arg4 fullShare x4 ∗ owns (c : Thread nD τ) arg7 fullShare x7 ∗ owns (c : Thread nD τ) arg8 fullShare x8 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ owns (c : Thread nD τ) arg18 fullShare x18
        ∗ (iprop(owns (c : Thread nD τ) arg2 fullShare x2 ∗ owns (c : Thread nD τ) arg4 fullShare x4 ∗ owns (c : Thread nD τ) arg7 fullShare x7 ∗ owns (c : Thread nD τ) arg8 fullShare x8 ∗ owns (c : Thread nD τ) arg12 fullShare (putRows i x12 (k0_pay12 x2 x18 x7)) ∗ owns (c : Thread nD τ) arg13 fullShare (queryBlock x2 x16 x4 x17) ∗ owns (c : Thread nD τ) arg14 fullShare (k0_pay16) ∗ owns (c : Thread nD τ) arg15 fullShare (sinkBlock x8) ∗ owns (c : Thread nD τ) arg16 fullShare x16 ∗ owns (c : Thread nD τ) arg17 fullShare x17 ∗ owns (c : Thread nD τ) arg18 fullShare x18) -∗ K ⟨⟩))
      ⊢ wp frame (wpE (defs₀ (F := F)) Variants.none c none) E (phase2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase2
  simp only [k0_part1_eq_skeleton, k0_part2_eq_skeleton]
  unfold k0_part1_skel k0_part2_skel
  unfold owns
  iintro ⟨⟨%f2, %hf2, H2⟩, ⟨%f4, %hf4, H4⟩, ⟨%f7, %hf7, H7⟩, ⟨%f8, %hf8, H8⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, Hk⟩
  obtain rfl := harg2.eq_unread hf2
  obtain rfl := harg4.eq_unread hf4
  obtain rfl := harg7.eq_unread hf7
  obtain rfl := harg8.eq_unread hf8
  obtain rfl := harg12.eq_unread hf12
  obtain rfl := harg16.eq_unread hf16
  obtain rfl := harg17.eq_unread hf17
  obtain rfl := harg18.eq_unread hf18
  sl_exec (disch := sl_exact hc)
  sl_step
  iapply Hk
  isplitl [H2]
  · iexists _; isplitr; · ipureintro; exact harg2.read_unread _
    iexact H2
  isplitl [H4]
  · iexists _; isplitr; · ipureintro; exact harg4.read_unread _
    iexact H4
  isplitl [H7]
  · iexists _; isplitr; · ipureintro; exact harg7.read_unread _
    iexact H7
  isplitl [H8]
  · iexists _; isplitr; · ipureintro; exact harg8.read_unread _
    iexact H8
  isplitl [H12]
  · iexists _; isplitr
    swap; · iexact H12
    ipureintro; rw [View.read_writes_cons_put _ _ _ _ _ (k0_off1_eq i)]; rw [View.writes_nil]; (repeat rw [View.readAt_full]); (repeat rw [Memref.IsWhole.read_unread]); (first | done | rfl)
  isplitl [H13]
  · iexists _; isplitr
    swap; · iexact H13
    ipureintro; refine (View.read_writes_full _ _ _ _ _).trans ?_; (repeat rw [View.readAt_full]); (repeat rw [Memref.IsWhole.read_unread]); (first | done | rfl)
  isplitl [H14]
  · iexists _; isplitr
    swap; · iexact H14
    ipureintro; refine (View.read_writes_full _ _ _ _ _).trans ?_; (repeat rw [View.readAt_full]); (repeat rw [Memref.IsWhole.read_unread]); (first | done | rfl)
  isplitl [H15]
  · iexists _; isplitr
    swap; · iexact H15
    ipureintro; refine (View.read_writes_full _ _ _ _ _).trans ?_; (repeat rw [View.readAt_full]); (repeat rw [Memref.IsWhole.read_unread]); (first | done | rfl)
  isplitl [H16]
  · iexists _; isplitr; · ipureintro; exact harg16.read_unread _
    iexact H16
  isplitl [H17]
  · iexists _; isplitr; · ipureintro; exact harg17.read_unread _
    iexact H17
  iexists _; isplitr; · ipureintro; exact harg18.read_unread _
  iexact H18

/-- Where the phase is not due, nothing happens. -/
theorem phase2_skip (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : ¬ k0_cond2 i = 1#1) (E : Set ℕ) (K : PUnit → sProp 𝕄) :
    K ⟨⟩ ⊢ wp frame (wpE (defs₀ (F := F)) Variants.none c none) E (phase2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase2
  rw [dif_neg hc]
  iintro H
  sl_step
  iexact H

/-- One key block's share. -/
theorem phase3_run (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : k0_cond3 i = 1#1)
    (x12 : Vec F S2048x128 .bf16) (x13 : Vec F S4096x128 .bf16) (x14 : Vec F S4096x128 .f32) (x15 : Vec F S4096x1 .f32)
    (E : Set ℕ) (K : PUnit → sProp 𝕄) :
    iprop(owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg12 fullShare x12 ∗ owns (c : Thread nD τ) arg13 fullShare x13 ∗ owns (c : Thread nD τ) arg14 fullShare (k0_pay10 i (keyRows i x12) x13 x14) ∗ owns (c : Thread nD τ) arg15 fullShare (k0_pay9 i (keyRows i x12) x13 x15)) -∗ K ⟨⟩))
      ⊢ wp frame (wpE (defs₀ (F := F)) Variants.none c none) E (phase3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase3
  unfold owns
  iintro ⟨⟨%f12, %hf12, H12⟩, ⟨%f13, %hf13, H13⟩, ⟨%f14, %hf14, H14⟩, ⟨%f15, %hf15, H15⟩, Hk⟩
  obtain rfl := harg12.eq_unread hf12
  obtain rfl := harg13.eq_unread hf13
  obtain rfl := harg14.eq_unread hf14
  obtain rfl := harg15.eq_unread hf15
  sl_exec (disch := sl_exact hc)
  sl_step
  iapply Hk
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro; refine (View.read_writes_full _ _ _ _ _).trans ?_; (repeat rw [View.readAt_full]); rw [View.readAt_unit _ _ _ (k0_off2_eq i) (inb_k i)]; (repeat rw [Memref.IsWhole.read_unread]); (first | done | rfl)
  iexists _; isplitr
  swap; · iexact H15
  ipureintro; refine (View.read_writes_full _ _ _ _ _).trans ?_; (repeat rw [View.readAt_full]); rw [View.readAt_unit _ _ _ (k0_off2_eq i) (inb_k i)]; (repeat rw [Memref.IsWhole.read_unread]); (first | done | rfl)

/-- Where the phase is not due, nothing happens. -/
theorem phase3_skip (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : ¬ k0_cond3 i = 1#1) (E : Set ℕ) (K : PUnit → sProp 𝕄) :
    K ⟨⟩ ⊢ wp frame (wpE (defs₀ (F := F)) Variants.none c none) E (phase3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase3
  rw [dif_neg hc]
  iintro H
  sl_step
  iexact H

/-- The result block. -/
theorem phase4_run (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : k0_cond4 i = 1#1)
    (x14 : Vec F S4096x128 .f32) (x15 : Vec F S4096x1 .f32) (x19 : Vec F S512x512 .bf16) (x20 : Vec F S2048x512 .bf16)
    (E : Set ℕ) (K : PUnit → sProp 𝕄) :
    iprop((∃ d, owns (c : Thread nD τ) arg11 fullShare d) ∗ owns (c : Thread nD τ) arg14 fullShare x14 ∗ owns (c : Thread nD τ) arg15 fullShare x15 ∗ owns (c : Thread nD τ) arg19 fullShare x19 ∗ owns (c : Thread nD τ) arg20 fullShare x20
        ∗ (iprop(owns (c : Thread nD τ) arg11 fullShare (resultBlock x14 x15 x19 x20) ∗ owns (c : Thread nD τ) arg14 fullShare x14 ∗ owns (c : Thread nD τ) arg15 fullShare x15 ∗ owns (c : Thread nD τ) arg19 fullShare x19 ∗ owns (c : Thread nD τ) arg20 fullShare x20) -∗ K ⟨⟩))
      ⊢ wp frame (wpE (defs₀ (F := F)) Variants.none c none) E (phase4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase4
  simp only [k0_part3_eq_skeleton]
  unfold k0_part3_skel
  unfold owns
  iintro ⟨⟨%d11, %f11, -, H11⟩, ⟨%f14, %hf14, H14⟩, ⟨%f15, %hf15, H15⟩, ⟨%f19, %hf19, H19⟩, ⟨%f20, %hf20, H20⟩, Hk⟩
  obtain rfl := harg14.eq_unread hf14
  obtain rfl := harg15.eq_unread hf15
  obtain rfl := harg19.eq_unread hf19
  obtain rfl := harg20.eq_unread hf20
  sl_exec (disch := sl_exact hc)
  sl_step
  iapply Hk
  isplitl [H11]
  · iexists _; isplitr
    swap; · iexact H11
    ipureintro; refine (View.read_writes_full _ _ _ _ _).trans ?_; (repeat rw [View.readAt_full]); rw [readAt_group0, readAt_group1, readAt_group2, readAt_group3]; (repeat rw [Memref.IsWhole.read_unread]); (first | done | rfl)
  isplitl [H14]
  · iexists _; isplitr; · ipureintro; exact harg14.read_unread _
    iexact H14
  isplitl [H15]
  · iexists _; isplitr; · ipureintro; exact harg15.read_unread _
    iexact H15
  isplitl [H19]
  · iexists _; isplitr; · ipureintro; exact harg19.read_unread _
    iexact H19
  iexists _; isplitr; · ipureintro; exact harg20.read_unread _
  iexact H20

/-- Where the phase is not due, nothing happens. -/
theorem phase4_skip (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (hc : ¬ k0_cond4 i = 1#1) (E : Set ℕ) (K : PUnit → sProp 𝕄) :
    K ⟨⟩ ⊢ wp frame (wpE (defs₀ (F := F)) Variants.none c none) E (phase4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold phase4
  rw [dif_neg hc]
  iintro H
  sl_step
  iexact H

end Cert.KernelIdeal.Hand

end
-- ==== Proof.Body.lean ====
/- The whole body at one grid point, as a step from the contents of the scratch buffers before it to those after it. -/
module

public import proofs.«01_k».proof.Proof.PhaseRuns
public import proofs.«01_k».proof.Proof.Gen.KernelIdeal.Points
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- What the scratch buffers hold. -/
structure Scr (F : FTy → Type) [FloatOps F] where
  /-- the key/value rows -/
  kv : Vec F S2048x128 .bf16
  /-- the query block's stacked query rows -/
  q : Vec F S4096x128 .bf16
  /-- the accumulator -/
  acc : Vec F S4096x128 .f32
  /-- the denominators -/
  den : Vec F S4096x1 .f32
  /-- the first query projection, rounded -/
  w16 : Vec F S512x2048 .bf16
  /-- the second query projection, rounded -/
  w17 : Vec F S2048x512 .bf16
  /-- the key/value projection, rounded -/
  w18 : Vec F S128x2048 .bf16
  /-- the output down-projection, rounded -/
  w19 : Vec F S512x512 .bf16
  /-- the output up-projection, rounded -/
  w20 : Vec F S2048x512 .bf16

/-- What the nine input blocks hold. -/
structure Ins (F : FTy → Type) [FloatOps F] where
  /-- the query block's rows of the input -/
  x2 : Vec F S256x2048 .f32
  /-- the first query projection -/
  x3 : Vec F S512x2048 .f32
  /-- the query scale -/
  x4 : Vec F S1x512 .f32
  /-- the second query projection -/
  x5 : Vec F S2048x512 .f32
  /-- the key/value projection -/
  x6 : Vec F S128x2048 .f32
  /-- the key/value scale -/
  x7 : Vec F S1x128 .f32
  /-- the sinks -/
  x8 : Vec F S1x16 .f32
  /-- the output down-projection -/
  x9 : Vec F S512x512 .f32
  /-- the output up-projection -/
  x10 : Vec F S2048x512 .f32

/-- The scratch after phase one. -/
def step1 (i : grid0.Coords) (x : Ins F) (s : Scr F) : Scr F :=
  if k0_first i = 1#1 then { s with kv := k0_pay6, w16 := k0_pay1 x.x3, w17 := k0_pay2 x.x5, w18 := k0_pay3 x.x6, w19 := k0_pay4 x.x9, w20 := k0_pay5 x.x10 } else s

/-- The scratch after phase two. -/
def step2 (i : grid0.Coords) (x : Ins F) (s : Scr F) : Scr F :=
  if k0_cond2 i = 1#1 then { s with kv := putRows i s.kv (k0_pay12 x.x2 s.w18 x.x7), q := queryBlock x.x2 s.w16 x.x4 s.w17, acc := k0_pay16, den := sinkBlock x.x8 } else s

/-- The scratch after phase three. -/
def step3 (i : grid0.Coords) (s : Scr F) : Scr F :=
  if k0_cond3 i = 1#1 then { s with acc := k0_pay10 i (keyRows i s.kv) s.q s.acc, den := k0_pay9 i (keyRows i s.kv) s.q s.den } else s

/-- The scratch after the point. -/
def step (i : grid0.Coords) (x : Ins F) (s : Scr F) : Scr F := step3 i (step2 i x (step1 i x s))

/-- The result's staging block after the point. -/
def outStep (i : grid0.Coords) (s : Scr F) (d : Vec F S256x2048 .f32) : Vec F S256x2048 .f32 :=
  if k0_cond4 i = 1#1 then resultBlock s.acc s.den s.w19 s.w20 else d

/-- The scratch buffers at the contents `s`. -/
def ownsScr (c : Dev nD) (arg12 : Memref sig .tc .vmem S2048x128 .bf16) (arg13 : Memref sig .tc .vmem S4096x128 .bf16) (arg14 : Memref sig .tc .vmem S4096x128 .f32) (arg15 : Memref sig .tc .vmem S4096x1 .f32) (arg16 : Memref sig .tc .vmem S512x2048 .bf16) (arg17 : Memref sig .tc .vmem S2048x512 .bf16) (arg18 : Memref sig .tc .vmem S128x2048 .bf16) (arg19 : Memref sig .tc .vmem S512x512 .bf16) (arg20 : Memref sig .tc .vmem S2048x512 .bf16) (s : Scr F) : sProp 𝕄 :=
  iprop(owns (c : Thread nD τ) arg12 fullShare s.kv ∗ owns (c : Thread nD τ) arg13 fullShare s.q ∗ owns (c : Thread nD τ) arg14 fullShare s.acc ∗ owns (c : Thread nD τ) arg15 fullShare s.den ∗ owns (c : Thread nD τ) arg16 fullShare s.w16 ∗ owns (c : Thread nD τ) arg17 fullShare s.w17 ∗ owns (c : Thread nD τ) arg18 fullShare s.w18 ∗ owns (c : Thread nD τ) arg19 fullShare s.w19 ∗ owns (c : Thread nD τ) arg20 fullShare s.w20)

/-- The input blocks at the contents `x`. -/
def ownsIns (c : Dev nD) (arg2 : Memref sig .tc .vmem S256x2048 .f32) (arg3 : Memref sig .tc .vmem S512x2048 .f32) (arg4 : Memref sig .tc .vmem S1x512 .f32) (arg5 : Memref sig .tc .vmem S2048x512 .f32) (arg6 : Memref sig .tc .vmem S128x2048 .f32) (arg7 : Memref sig .tc .vmem S1x128 .f32) (arg8 : Memref sig .tc .vmem S1x16 .f32) (arg9 : Memref sig .tc .vmem S512x512 .f32) (arg10 : Memref sig .tc .vmem S2048x512 .f32) (x : Ins F) : sProp 𝕄 :=
  iprop(owns (c : Thread nD τ) arg2 fullShare x.x2 ∗ owns (c : Thread nD τ) arg3 fullShare x.x3 ∗ owns (c : Thread nD τ) arg4 fullShare x.x4 ∗ owns (c : Thread nD τ) arg5 fullShare x.x5 ∗ owns (c : Thread nD τ) arg6 fullShare x.x6 ∗ owns (c : Thread nD τ) arg7 fullShare x.x7 ∗ owns (c : Thread nD τ) arg8 fullShare x.x8 ∗ owns (c : Thread nD τ) arg9 fullShare x.x9 ∗ owns (c : Thread nD τ) arg10 fullShare x.x10)

/-- A program followed by another runs as the first one into the second. -/
theorem wp_bind' (c : Dev nD) {α β : Type} (E : Set ℕ) (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) E (p.bind k) Q
      = wp frame (wpE (defs₀ (F := F)) Variants.none (c : Thread nD τ) none) E p fun a => wp frame (wpE (defs₀ (F := F)) Variants.none (c : Thread nD τ) none) E (k a) Q :=
  Idealize.SL.Sem.wp_bind _ _ _ _ _ _

/-- Phase one, due or not. -/
theorem phase1_step (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (x : Ins F) (s : Scr F) (E : Set ℕ) (K : PUnit → sProp 𝕄) :
    iprop(ownsIns c arg2 arg3 arg4 arg5 arg6 arg7 arg8 arg9 arg10 x ∗ ownsScr c arg12 arg13 arg14 arg15 arg16 arg17 arg18 arg19 arg20 s ∗ (iprop(ownsIns c arg2 arg3 arg4 arg5 arg6 arg7 arg8 arg9 arg10 x ∗ ownsScr c arg12 arg13 arg14 arg15 arg16 arg17 arg18 arg19 arg20 (step1 i x s)) -∗ K ⟨⟩))
      ⊢ wp frame (wpE (defs₀ (F := F)) Variants.none c none) E (phase1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : k0_first i = 1#1
  · unfold step1; rw [if_pos hc]
    unfold ownsScr ownsIns
    iintro ⟨⟨H2, H3, H4, H5, H6, H7, H8, H9, H10⟩, ⟨H12, H13, H14, H15, H16, H17, H18, H19, H20⟩, Hk⟩
    iapply (phase1_run c i _ _ _ _ _ _ _ _ _ _ _ _ _ _ _ _ _ _ _ _ _ _ _ _ _ _ _ _ _ _ _ _ _ _ _ _ _ _ hc x.x3 x.x5 x.x6 x.x9 x.x10 E K)
    isplitl [H3]; · iexact H3
    isplitl [H5]; · iexact H5
    isplitl [H6]; · iexact H6
    isplitl [H9]; · iexact H9
    isplitl [H10]; · iexact H10
    isplitl [H12]; · iexists _; iexact H12
    isplitl [H16]; · iexists _; iexact H16
    isplitl [H17]; · iexists _; iexact H17
    isplitl [H18]; · iexists _; iexact H18
    isplitl [H19]; · iexists _; iexact H19
    isplitl [H20]; · iexists _; iexact H20
    iintro ⟨H3, H5, H6, H9, H10, H12, H16, H17, H18, H19, H20⟩
    iapply Hk
    isplitl [H2 H3 H4 H5 H6 H7 H8 H9 H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · unfold step1; rw [if_neg hc]
    iintro ⟨HI, HS, Hk⟩
    iapply (phase1_skip c i _ _ _ _ _ _ _ _ _ _ _ _ _ _ _ _ _ _ _ _ _ _ _ _ _ _ _ _ _ _ _ _ _ _ _ _ _ _ hc E K)
    iapply Hk
    isplitl [HI]; · iexact HI
    iexact HS

/-- Phase two, due or not. -/
theorem phase2_step (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (x : Ins F) (s : Scr F) (E : Set ℕ) (K : PUnit → sProp 𝕄) :
    iprop(ownsIns c arg2 arg3 arg4 arg5 arg6 arg7 arg8 arg9 arg10 x ∗ ownsScr c arg12 arg13 arg14 arg15 arg16 arg17 arg18 arg19 arg20 s ∗ (iprop(ownsIns c arg2 arg3 arg4 arg5 arg6 arg7 arg8 arg9 arg10 x ∗ ownsScr c arg12 arg13 arg14 arg15 arg16 arg17 arg18 arg19 arg20 (step2 i x s)) -∗ K ⟨⟩))
      ⊢ wp frame (wpE (defs₀ (F := F)) Variants.none c none) E (phase2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : k0_cond2 i = 1#1
  · unfold step2; rw [if_pos hc]
    unfold ownsScr ownsIns
    iintro ⟨⟨H2, H3, H4, H5, H6, H7, H8, H9, H10⟩, ⟨H12, H13, H14, H15, H16, H17, H18, H19, H20⟩, Hk⟩
    iapply (phase2_run c i _ _ _ _ _ _ _ _ _ _ _ _ _ _ _ _ _ _ _ _ _ _ _ _ _ _ _ _ _ _ _ _ _ _ _ _ _ _ hc x.x2 x.x4 x.x7 x.x8 s.kv s.w16 s.w17 s.w18 E K)
    isplitl [H2]; · iexact H2
    isplitl [H4]; · iexact H4
    isplitl [H7]; · iexact H7
    isplitl [H8]; · iexact H8
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    iintro ⟨H2, H4, H7, H8, H12, H13, H14, H15, H16, H17, H18⟩
    iapply Hk
    isplitl [H2 H3 H4 H5 H6 H7 H8 H9 H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · unfold step2; rw [if_neg hc]
    iintro ⟨HI, HS, Hk⟩
    iapply (phase2_skip c i _ _ _ _ _ _ _ _ _ _ _ _ _ _ _ _ _ _ _ _ _ _ _ _ _ _ _ _ _ _ _ _ _ _ _ _ _ _ hc E K)
    iapply Hk
    isplitl [HI]; · iexact HI
    iexact HS

/-- Phase three, due or not. -/
theorem phase3_step (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (x : Ins F) (s : Scr F) (E : Set ℕ) (K : PUnit → sProp 𝕄) :
    iprop(ownsIns c arg2 arg3 arg4 arg5 arg6 arg7 arg8 arg9 arg10 x ∗ ownsScr c arg12 arg13 arg14 arg15 arg16 arg17 arg18 arg19 arg20 s ∗ (iprop(ownsIns c arg2 arg3 arg4 arg5 arg6 arg7 arg8 arg9 arg10 x ∗ ownsScr c arg12 arg13 arg14 arg15 arg16 arg17 arg18 arg19 arg20 (step3 i s)) -∗ K ⟨⟩))
      ⊢ wp frame (wpE (defs₀ (F := F)) Variants.none c none) E (phase3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : k0_cond3 i = 1#1
  · unfold step3; rw [if_pos hc]
    unfold ownsScr ownsIns
    iintro ⟨⟨H2, H3, H4, H5, H6, H7, H8, H9, H10⟩, ⟨H12, H13, H14, H15, H16, H17, H18, H19, H20⟩, Hk⟩
    iapply (phase3_run c i _ _ _ _ _ _ _ _ _ _ _ _ _ _ _ _ _ _ _ _ _ _ _ _ _ _ _ _ _ _ _ _ _ _ _ _ _ _ hc s.kv s.q s.acc s.den E K)
    isplitl [H12]; · iexact H12
    isplitl [H13]; · iexact H13
    isplitl [H14]; · iexact H14
    isplitl [H15]; · iexact H15
    iintro ⟨H12, H13, H14, H15⟩
    iapply Hk
    isplitl [H2 H3 H4 H5 H6 H7 H8 H9 H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · unfold step3; rw [if_neg hc]
    iintro ⟨HI, HS, Hk⟩
    iapply (phase3_skip c i _ _ _ _ _ _ _ _ _ _ _ _ _ _ _ _ _ _ _ _ _ _ _ _ _ _ _ _ _ _ _ _ _ _ _ _ _ _ hc E K)
    iapply Hk
    isplitl [HI]; · iexact HI
    iexact HS

/-- Phase four, due or not. -/
theorem phase4_step (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (s : Scr F) (d : Vec F S256x2048 .f32) (E : Set ℕ) (K : PUnit → sProp 𝕄) :
    iprop(owns (c : Thread nD τ) arg11 fullShare d ∗ ownsScr c arg12 arg13 arg14 arg15 arg16 arg17 arg18 arg19 arg20 s ∗ (iprop(owns (c : Thread nD τ) arg11 fullShare (outStep i s d) ∗ ownsScr c arg12 arg13 arg14 arg15 arg16 arg17 arg18 arg19 arg20 s) -∗ K ⟨⟩))
      ⊢ wp frame (wpE (defs₀ (F := F)) Variants.none c none) E (phase4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : k0_cond4 i = 1#1
  · unfold outStep; rw [if_pos hc]
    unfold ownsScr
    iintro ⟨H11, ⟨H12, H13, H14, H15, H16, H17, H18, H19, H20⟩, Hk⟩
    iapply (phase4_run c i _ _ _ _ _ _ _ _ _ _ _ _ _ _ _ _ _ _ _ _ _ _ _ _ _ _ _ _ _ _ _ _ _ _ _ _ _ _ hc s.acc s.den s.w19 s.w20 E K)
    isplitl [H11]; · iexists _; iexact H11
    isplitl [H14]; · iexact H14
    isplitl [H15]; · iexact H15
    isplitl [H19]; · iexact H19
    isplitl [H20]; · iexact H20
    iintro ⟨H11, H14, H15, H19, H20⟩
    iapply Hk
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · unfold outStep; rw [if_neg hc]
    iintro ⟨H11, HS, Hk⟩
    iapply (phase4_skip c i _ _ _ _ _ _ _ _ _ _ _ _ _ _ _ _ _ _ _ _ _ _ _ _ _ _ _ _ _ _ _ _ _ _ _ _ _ _ hc E K)
    iapply Hk
    isplitl [H11]; · iexact H11
    iexact HS

/-- The body at one grid point. -/
theorem body_step (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S128x2048 .f32) (harg6 : arg6.IsWhole) (arg7 : Memref sig .tc .vmem S1x128 .f32) (harg7 : arg7.IsWhole) (arg8 : Memref sig .tc .vmem S1x16 .f32) (harg8 : arg8.IsWhole) (arg9 : Memref sig .tc .vmem S512x512 .f32) (harg9 : arg9.IsWhole) (arg10 : Memref sig .tc .vmem S2048x512 .f32) (harg10 : arg10.IsWhole) (arg11 : Memref sig .tc .vmem S256x2048 .f32) (harg11 : arg11.IsWhole) (arg12 : Memref sig .tc .vmem S2048x128 .bf16) (harg12 : arg12.IsWhole) (arg13 : Memref sig .tc .vmem S4096x128 .bf16) (harg13 : arg13.IsWhole) (arg14 : Memref sig .tc .vmem S4096x128 .f32) (harg14 : arg14.IsWhole) (arg15 : Memref sig .tc .vmem S4096x1 .f32) (harg15 : arg15.IsWhole) (arg16 : Memref sig .tc .vmem S512x2048 .bf16) (harg16 : arg16.IsWhole) (arg17 : Memref sig .tc .vmem S2048x512 .bf16) (harg17 : arg17.IsWhole) (arg18 : Memref sig .tc .vmem S128x2048 .bf16) (harg18 : arg18.IsWhole) (arg19 : Memref sig .tc .vmem S512x512 .bf16) (harg19 : arg19.IsWhole) (arg20 : Memref sig .tc .vmem S2048x512 .bf16) (harg20 : arg20.IsWhole) (x : Ins F) (s : Scr F) (d : Vec F S256x2048 .f32) (E : Set ℕ) (K : PUnit → sProp 𝕄) :
    iprop(ownsIns c arg2 arg3 arg4 arg5 arg6 arg7 arg8 arg9 arg10 x ∗ ownsScr c arg12 arg13 arg14 arg15 arg16 arg17 arg18 arg19 arg20 s ∗ owns (c : Thread nD τ) arg11 fullShare d
        ∗ (iprop(ownsIns c arg2 arg3 arg4 arg5 arg6 arg7 arg8 arg9 arg10 x ∗ ownsScr c arg12 arg13 arg14 arg15 arg16 arg17 arg18 arg19 arg20 (step i x s) ∗ owns (c : Thread nD τ) arg11 fullShare (outStep i (step i x s) d)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]
  rw [body_phases]
  iintro ⟨HI, HS, HO, Hk⟩
  rw [wp_bind']
  iapply (phase1_step c i _ _ _ _ _ _ _ _ _ _ _ _ _ _ _ _ _ _ _ _ _ _ _ _ _ _ _ _ _ _ _ _ _ _ _ _ _ _ x s E _)
  isplitl [HI]; · iexact HI
  isplitl [HS]; · iexact HS
  iintro ⟨HI, HS⟩
  rw [wp_bind']
  iapply (phase2_step c i _ _ _ _ _ _ _ _ _ _ _ _ _ _ _ _ _ _ _ _ _ _ _ _ _ _ _ _ _ _ _ _ _ _ _ _ _ _ x (step1 i x s) E _)
  isplitl [HI]; · iexact HI
  isplitl [HS]; · iexact HS
  iintro ⟨HI, HS⟩
  rw [wp_bind']
  iapply (phase3_step c i _ _ _ _ _ _ _ _ _ _ _ _ _ _ _ _ _ _ _ _ _ _ _ _ _ _ _ _ _ _ _ _ _ _ _ _ _ _ x (step2 i x (step1 i x s)) E _)
  isplitl [HI]; · iexact HI
  isplitl [HS]; · iexact HS
  iintro ⟨HI, HS⟩
  rw [wp_bind']
  iapply (phase4_step c i _ _ _ _ _ _ _ _ _ _ _ _ _ _ _ _ _ _ _ _ _ _ _ _ _ _ _ _ _ _ _ _ _ _ _ _ _ _ (step3 i (step2 i x (step1 i x s))) d E _)
  isplitl [HO]; · iexact HO
  isplitl [HS]; · iexact HS
  iintro ⟨HO, HS⟩
  sl_step
  iapply Hk
  isplitl [HI]; · iexact HI
  isplitl [HS]; · iexact HS
  iexact HO

end Cert.KernelIdeal.Hand

end
-- ==== Proof.Run.lean ====
/- The run of the program over its 32 grid points: what the scratch buffers hold before each point, what the result's
   staging block holds when it is written back, the body's obligation at every point, and the run itself. -/
module

public import proofs.«01_k».proof.Proof.Body
public import proofs.«01_k».proof.Proof.Gen.KernelIdeal.Frame
public import Idealize.ShloMosaic.Lib.Pipeline.FrameSuffix
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points and the body's conditions -/

theorem lt_N (t : Fin cfg0.N) : t.val < 32 := lt_of_lt_of_eq t.isLt (show cfg0.N = 32 from N_0)

/-- The result block is due at the last key block of its query block. -/
theorem due_result : ∀ t : Fin cfg0.N, k0_cond4 (grid0.coords t) = 1#1 ↔ t.val % 4 = t.val / 4 / 2 :=
  (by decide +kernel : ∀ t : Fin grid0.N, k0_cond4 (grid0.coords t) = 1#1 ↔ t.val % 4 = t.val / 4 / 2)
/-- A key block is due when it is not wholly in the query block's future. -/
theorem due_share : ∀ t : Fin cfg0.N, k0_cond3 (grid0.coords t) = 1#1 ↔ t.val % 4 ≤ t.val / 4 / 2 :=
  (by decide +kernel : ∀ t : Fin grid0.N, k0_cond3 (grid0.coords t) = 1#1 ↔ t.val % 4 ≤ t.val / 4 / 2)
/-- A query block is set up at its first key block. -/
theorem due_setup : ∀ t : Fin cfg0.N, k0_cond2 (grid0.coords t) = 1#1 ↔ t.val % 4 = 0 :=
  (by decide +kernel : ∀ t : Fin grid0.N, k0_cond2 (grid0.coords t) = 1#1 ↔ t.val % 4 = 0)
/-- The launch is set up at the first point. -/
theorem due_first : ∀ t : Fin cfg0.N, k0_first (grid0.coords t) = 1#1 ↔ t.val = 0 :=
  (by decide +kernel : ∀ t : Fin grid0.N, k0_first (grid0.coords t) = 1#1 ↔ t.val = 0)

/-- The result's window is idle exactly where its block is not due. -/
theorem idle9 (t : Fin cfg0.N) : cfg0.idle 9 (grid0.coords t) = !(k0_cond4 (grid0.coords t) == 1#1) := rfl

/-! ## The scratch point by point -/

/-- What the input blocks hold at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- What the scratch holds before point `n`; before the first point nothing depends on it, so here what the launch finds. -/
def scrAt (c : Dev nD) : ℕ → Scr F
  | 0 => ⟨m ((c.tc : Thread nD τ).loc cc0_scratch0), m ((c.tc : Thread nD τ).loc cc0_scratch1), m ((c.tc : Thread nD τ).loc cc0_scratch2), m ((c.tc : Thread nD τ).loc cc0_scratch3), m ((c.tc : Thread nD τ).loc cc0_scratch4), m ((c.tc : Thread nD τ).loc cc0_scratch5), m ((c.tc : Thread nD τ).loc cc0_scratch6), m ((c.tc : Thread nD τ).loc cc0_scratch7), m ((c.tc : Thread nD τ).loc cc0_scratch8)⟩
  | n + 1 => if h : n < cfg0.N then step (grid0.coords ⟨n, h⟩) (insAt m c ⟨n, h⟩) (scrAt c n) else scrAt c n

theorem scrAt_succ (c : Dev nD) (t : Fin cfg0.N) :
    scrAt m c (t.val + 1) = step (grid0.coords t) (insAt m c t) (scrAt m c t.val) := by
  rw [scrAt, dif_pos t.isLt]

/-- The first point overwrites all of the scratch. -/
theorem step_first (t : Fin cfg0.N) (ht : t.val = 0) (x : Ins F) (s s' : Scr F) : step (grid0.coords t) x s = step (grid0.coords t) x s' := by
  have h1 : k0_first (grid0.coords t) = 1#1 := (due_first t).mpr ht
  have h2 : k0_cond2 (grid0.coords t) = 1#1 := (due_setup t).mpr (by rw [ht])
  have h3 : k0_cond3 (grid0.coords t) = 1#1 := (due_share t).mpr (by rw [ht])
  unfold step step3 step2 step1
  simp only [if_pos h1, if_pos h2, if_pos h3]

/-- The step from contents known only after the first point. -/
theorem step_known (c : Dev nD) (t : Fin cfg0.N) (s : Scr F) (hs : t.val ≠ 0 → s = scrAt m c t.val) :
    step (grid0.coords t) (insAt m c t) s = scrAt m c (t.val + 1) := by
  rw [scrAt_succ]
  by_cases ht : t.val = 0
  · exact step_first t ht _ _ _
  · rw [hs ht]

/-- The point at which the result block that point `t` belongs to is written. -/
def dueAt (t : Fin cfg0.N) : Fin cfg0.N := ⟨4 * (t.val / 4) + t.val / 4 / 2, by
  have := lt_N t; exact lt_of_lt_of_eq (by omega : 4 * (t.val / 4) + t.val / 4 / 2 < 32) N_0.symm⟩

/-- The result block of the query block that point `t` belongs to. -/
def outBlk (c : Dev nD) (t : Fin cfg0.N) : Vec F S256x2048 .f32 :=
  let s := scrAt m c ((dueAt t).val + 1)
  resultBlock s.acc s.den s.w19 s.w20

theorem outBlk_congr (c : Dev nD) (t t' : Fin cfg0.N) (h : t.val / 4 = t'.val / 4) : outBlk m c t = outBlk m c t' := by
  have : dueAt t = dueAt t' := Fin.ext (by
    show 4 * (t.val / 4) + t.val / 4 / 2 = 4 * (t'.val / 4) + t'.val / 4 / 2
    omega)
  unfold outBlk; rw [this]

/-! ## The pipeline's proof data -/

/-- The scratch operands. -/
abbrev scr (c : Dev nD) (s : Scr F) : sProp 𝕄 :=
  ownsScr c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) s

/-- Between points: the scratch at its contents, the generator register at some state. -/
def inv (c : Dev nD) (n : ℕ) : sProp 𝕄 :=
  iprop(∃ s : Scr F, ⌜n ≠ 0 → s = scrAt m c n⌝ ∗ scr c s ∗ (∃ r, prngReg c r))

/-- The proof data of the one pipeline: the arrays as the region finds them; each input's buffer left at its block and the result's
    at its block once that is due; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Once a query block's result is written, its staging block keeps it to the last key block. -/
theorem before0_9 (c : Dev nD) (n : ℕ) : ∀ t : Fin cfg0.N, t.val = n → t.val / 4 / 2 < t.val % 4 → ∀ d, (dats m 0 c).before 9 t d = outBlk m c t := by
  induction n with
  | zero => intro t ht h; omega
  | succ n ih =>
    intro t ht h d
    have hN := lt_N t
    have hlt : t.val - 1 < cfg0.N := Nat.lt_of_le_of_lt (Nat.sub_le _ _) t.isLt
    have hq : (t.val - 1) / 4 = t.val / 4 := by omega
    rw [(dats m 0 c).before_of_pos 9 t (by omega) rfl d]
    have hfl : ¬ (cfg0.win 9).flush ⟨t.val - 1, hlt⟩ = true := fun hf => by
      have := (flush0_9 ⟨t.val - 1, hlt⟩).mp hf
      have e : (t.val - 1) % 4 = 3 := this
      omega
    rw [if_neg hfl]
    unfold Dat.left
    by_cases hc : k0_cond4 (grid0.coords ⟨t.val - 1, hlt⟩) = 1#1
    · have hi : cfg0.idle 9 (grid0.coords ⟨t.val - 1, hlt⟩) = false := by rw [idle9, hc]; rfl
      rw [hi]
      show (dats m 0 c).after 9 ⟨t.val - 1, hlt⟩ = _
      rw [after0_9]
      exact outBlk_congr m c _ _ hq
    · have hi : cfg0.idle 9 (grid0.coords ⟨t.val - 1, hlt⟩) = true := by rw [idle9]; simp [hc]
      rw [hi]
      have hne : ¬ (t.val - 1) % 4 = (t.val - 1) / 4 / 2 := fun h' => hc ((due_result ⟨t.val - 1, hlt⟩).mpr h')
      show (dats m 0 c).before 9 ⟨t.val - 1, hlt⟩ d = _
      rw [ih ⟨t.val - 1, hlt⟩ (by show t.val - 1 = n; omega) (by show (t.val - 1) / 4 / 2 < (t.val - 1) % 4; omega) d]
      exact outBlk_congr m c _ _ hq

/-! ## The body's obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) : ((dats m 0 c).leavesExact 0 t : sProp 𝕄) = owns (c : Thread nD τ) (st0_0 t) fullShare (iblk m c 0 t) := by
  unfold Dat.leavesExact; rw [show cfg0.idle 0 (grid0.coords t) = false from rfl, after0_0]
theorem leaves0_1 (c : Dev nD) (t : Fin cfg0.N) : ((dats m 0 c).leavesExact 1 t : sProp 𝕄) = owns (c : Thread nD τ) (st0_1 t) fullShare (iblk m c 1 t) := by
  unfold Dat.leavesExact; rw [show cfg0.idle 1 (grid0.coords t) = false from rfl, after0_1]
theorem leaves0_2 (c : Dev nD) (t : Fin cfg0.N) : ((dats m 0 c).leavesExact 2 t : sProp 𝕄) = owns (c : Thread nD τ) (st0_2 t) fullShare (iblk m c 2 t) := by
  unfold Dat.leavesExact; rw [show cfg0.idle 2 (grid0.coords t) = false from rfl, after0_2]
theorem leaves0_3 (c : Dev nD) (t : Fin cfg0.N) : ((dats m 0 c).leavesExact 3 t : sProp 𝕄) = owns (c : Thread nD τ) (st0_3 t) fullShare (iblk m c 3 t) := by
  unfold Dat.leavesExact; rw [show cfg0.idle 3 (grid0.coords t) = false from rfl, after0_3]
theorem leaves0_4 (c : Dev nD) (t : Fin cfg0.N) : ((dats m 0 c).leavesExact 4 t : sProp 𝕄) = owns (c : Thread nD τ) (st0_4 t) fullShare (iblk m c 4 t) := by
  unfold Dat.leavesExact; rw [show cfg0.idle 4 (grid0.coords t) = false from rfl, after0_4]
theorem leaves0_5 (c : Dev nD) (t : Fin cfg0.N) : ((dats m 0 c).leavesExact 5 t : sProp 𝕄) = owns (c : Thread nD τ) (st0_5 t) fullShare (iblk m c 5 t) := by
  unfold Dat.leavesExact; rw [show cfg0.idle 5 (grid0.coords t) = false from rfl, after0_5]
theorem leaves0_6 (c : Dev nD) (t : Fin cfg0.N) : ((dats m 0 c).leavesExact 6 t : sProp 𝕄) = owns (c : Thread nD τ) (st0_6 t) fullShare (iblk m c 6 t) := by
  unfold Dat.leavesExact; rw [show cfg0.idle 6 (grid0.coords t) = false from rfl, after0_6]
theorem leaves0_7 (c : Dev nD) (t : Fin cfg0.N) : ((dats m 0 c).leavesExact 7 t : sProp 𝕄) = owns (c : Thread nD τ) (st0_7 t) fullShare (iblk m c 7 t) := by
  unfold Dat.leavesExact; rw [show cfg0.idle 7 (grid0.coords t) = false from rfl, after0_7]
theorem leaves0_8 (c : Dev nD) (t : Fin cfg0.N) : ((dats m 0 c).leavesExact 8 t : sProp 𝕄) = owns (c : Thread nD τ) (st0_8 t) fullShare (iblk m c 8 t) := by
  unfold Dat.leavesExact; rw [show cfg0.idle 8 (grid0.coords t) = false from rfl, after0_8]

/-- The result's staging block after the body meets the obligation: the block, where it is due or written back, else what was found. -/
theorem leaves0_9 (c : Dev nD) (t : Fin cfg0.N) (d) :
    owns (c : Thread nD τ) (st0_9 t) fullShare (outStep (grid0.coords t) (scrAt m c (t.val + 1)) ((dats m 0 c).before 9 t d))
      ⊢ ((dats m 0 c).leavesExact 9 t : sProp 𝕄) := by
  unfold Dat.leavesExact outStep
  by_cases hc : k0_cond4 (grid0.coords t) = 1#1
  · have hi : cfg0.idle 9 (grid0.coords t) = false := by rw [idle9, hc]; rfl
    rw [hi, if_pos hc, after0_9]
    have hd : dueAt t = t := Fin.ext (by
      have := (due_result t).mp hc
      show 4 * (t.val / 4) + t.val / 4 / 2 = t.val
      omega)
    unfold outBlk; rw [hd]
  · have hi : cfg0.idle 9 (grid0.coords t) = true := by rw [idle9]; simp [hc]
    rw [hi, if_neg hc]
    by_cases hf : (cfg0.win 9).flush t = true
    · rw [hf]
      have h3 := (flush0_9 t).mp hf
      have hN := lt_N t
      have hne : ¬ t.val % 4 = t.val / 4 / 2 := fun h' => hc ((due_result t).mpr h')
      rw [before0_9 m c t.val t rfl (by omega) d, after0_9]
    · rw [Bool.not_eq_true] at hf
      rw [hf]
      iintro H; iexists d; iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8]
  rw [show (dats m 0 c).owesAt () t.succ = (dats m 0 c).owesAt () t.castSucc from rfl]
  rw [show (dats m 0 c).Φ t.succ = inv m c (t.val + 1) from rfl, show (dats m 0 c).Φ t.castSucc = inv m c t.val from rfl]
  unfold inv
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_step c (grid0.coords t) _ _ _ _ _ _ _ _ _ _ _ _ _ _ _ _ _ _ _ _ _ _ _ _ _ _ _ _ _ _ _ _ _ _ _ _ _ _ (insAt m c t) s ((dats m 0 c).before 9 t d9) Set.univ _)
  isplitl [H0 H1 H2 H3 H4 H5 H6 H7 H8]
  · unfold ownsIns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HS]; · iexact HS
  isplitl [H9]; · iexact H9
  rw [step_known m c t s hs]
  unfold ownsIns
  iintro ⟨⟨H0, H1, H2, H3, H4, H5, H6, H7, H8⟩, HS, H9⟩
  isplitl [HS Hg]
  · iexists (scrAt m c (t.val + 1)); isplitr; · ipureintro; exact fun _ => rfl
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves0_9 m c t d9)
  iexact H9

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch at anything, as separate buffers. -/
theorem scratch_any (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = inv m c 0 from rfl, scratch_any]
  unfold inv scr ownsScr
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩, Hg⟩
  iexists (⟨d0, d1, d2, d3, d4, d5, d6, d7, d8⟩ : Scr F)
  isplitr; · ipureintro; exact fun h => absurd rfl h
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem hout (c : Dev nD) : (dats m 0 c).Φ (Fin.last cfg0.N) ⊢ Pipeline.ΦA spec0 c := by
  rw [show (dats m 0 c).Φ (Fin.last cfg0.N) = inv m c cfg0.N from rfl, scratch_any]
  unfold inv scr ownsScr
  iintro ⟨%s, -, ⟨H0, H1, H2, H3, H4, H5, H6, H7, H8⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  iexact Hg

set_option backward.isDefEq.respectTransparency.types false in
set_option maxHeartbeats 800000 in
/-- The run: the pipeline's arrays end as the proof data say, every other buffer as the host lines leave it, every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Hand

end
-- ==== Proof.Claims.lean ====
/- The claims that do not speak of values: the three programs' frames and the agreement of the kernel with the form of it
   in which two constants carry names. -/
module

public import proofs.«01_k».proof.Defs
public import proofs.«01_k».proof.Proof.Run
public import proofs.«01_k».proof.Proof.BitsRun
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel ends with its arguments as they were, at the machine's floats. -/
theorem frame_kernel : Cert.quiescent_Kernel := fun m ρ _ => Cert.Kernel.Hand.frame m ρ

/-- The kernel with named constants ends with its arguments as they were. -/
theorem frame_ideal : Cert.quiescent_KernelIdeal := fun m ρ _ => Cert.KernelIdeal.Hand.frame m ρ

/-- The reference ends with its arguments as they were. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants carry the values the table gives them. -/
theorem named_constants : Cert.preserves_Kernel_KernelIdeal :=
  ⟨IdealRules.named_const.statement _ _ _ _ _ rfl, IdealRules.named_const.statement _ _ _ _ _ rfl⟩

end Cert.Proof

end
-- ==== Proof.Model.lean ====
/- The mathematics both programs compute, over the extended reals, as plain functions of plain indices. -/
module

public import Idealize.ShloMosaic.PureOps.Ideal

@[expose] public section

noncomputable section

namespace Cert.Model

open Idealize.ShloMosaic

/-- A row normalised by its root mean square and scaled: `len` is the row's length, as the programs spell it. -/
def rms {n : ℕ} (len : EReal) (r g : Fin n → EReal) (d : Fin n) : EReal :=
  r d * Ideal.rsqrt (Ideal.div (∑ k, r k * r k) len + Ideal.ofBits .f32 0x358637BD#32) * g d

/-- Row `s` of `x` against row `d` of `w`. -/
def proj {m n k : ℕ} (x : Fin m → Fin k → EReal) (w : Fin n → Fin k → EReal) (s : Fin m) (d : Fin n) : EReal :=
  ∑ c, x s c * w d c

/-- The shared key/value rows. -/
def keys {m : ℕ} (x : Fin m → Fin 2048 → EReal) (wkv : Fin 128 → Fin 2048 → EReal) (gkv : Fin 128 → EReal) (s : Fin m) : Fin 128 → EReal :=
  rms (Ideal.ofBits .f32 0x43000000#32) (proj x wkv s) gkv

/-- The low-rank query rows. -/
def lowQuery {m : ℕ} (x : Fin m → Fin 2048 → EReal) (wqd : Fin 512 → Fin 2048 → EReal) (gq : Fin 512 → EReal) (s : Fin m) : Fin 512 → EReal :=
  rms (Ideal.ofBits .f32 0x44000000#32) (proj x wqd s) gq

/-- The query rows, all heads side by side. -/
def query {m : ℕ} (x : Fin m → Fin 2048 → EReal) (wqd : Fin 512 → Fin 2048 → EReal) (gq : Fin 512 → EReal)
    (wqu : Fin 2048 → Fin 512 → EReal) : Fin m → Fin 2048 → EReal :=
  proj (lowQuery x wqd gq) wqu

/-- Column `128 h + d`. -/
def col (h : Fin 16) (d : Fin 128) : Fin 2048 := ⟨h.val * 128 + d.val, by omega⟩

/-- The score of query row `s` of head `h` against key row `t`, before scaling. -/
def score (K : Fin 2048 → Fin 128 → EReal) (Q : Fin 2048 → Fin 2048 → EReal) (h : Fin 16) (s t : Fin 2048) : EReal :=
  ∑ d, K t d * Q s (col h d)

/-- Entry `c` of the grouped low-rank rows: group `c / 128` takes its four heads' outputs `o s h d`, side by side. -/
def grouped {m : ℕ} (o : Fin m → Fin 16 → Fin 128 → EReal) (wod : Fin 512 → Fin 512 → EReal) (s : Fin m) (c : Fin 512) : EReal :=
  ∑ f : Fin 512, o s ⟨c.val / 128 * 4 + f.val / 128, by omega⟩ ⟨f.val % 128, by omega⟩ * wod c f

/-- The output rows. -/
def output {m : ℕ} (o : Fin m → Fin 16 → Fin 128 → EReal) (wod : Fin 512 → Fin 512 → EReal) (wou : Fin 2048 → Fin 512 → EReal) :
    Fin m → Fin 2048 → EReal :=
  proj (grouped o wod) wou

end Cert.Model

end
-- ==== Proof.Consts.lean ====
/- The values of the constants both programs hold. -/
module

public import Idealize.ShloMosaic.PureOps.Ideal

@[expose] public section

namespace Cert.Model

open Idealize.ShloMosaic

theorem ofBits_neg_inf : Ideal.ofBits .f32 0xFF800000#32 = (⊥ : EReal) := by
  simp [Ideal.ofBits, Ideal.ieee, -EReal.coe_mul]

theorem ofBits_inf : Ideal.ofBits .f32 0x7F800000#32 = (⊤ : EReal) := by
  simp [Ideal.ofBits, Ideal.ieee, -EReal.coe_mul]

theorem ofBits_zero : Ideal.ofBits .f32 0x00000000#32 = (0 : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The normalisation's small constant is a positive real number. -/
theorem ofBits_eps : ∃ e : ℝ, 0 < e ∧ Ideal.ofBits .f32 0x358637BD#32 = (e : EReal) := by
  refine ⟨(2 : ℝ) ^ (-20 : ℤ) * (1 + 407485 / 8388608), by positivity, ?_⟩
  simp [Ideal.ofBits, Ideal.ieee, -EReal.coe_mul]
  norm_num

end Cert.Model
-- ==== Proof.Softmax.lean ====
/- The attention's softmax with a sink, two ways: with each score less the row's largest, and without; on real scores the
   two are one number. -/
module

public import Idealize.ShloMosaic.PureOps.Ideal
public import proofs.«01_k».proof.Proof.Consts

@[expose] public section

namespace Cert.Model

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Both softmaxes of one row: the scores `l` where `p` holds and `⊥` elsewhere, the sink `a`, the values `v`, any real `μ`. -/
theorem softmax_shift {n : ℕ} (a μ : ℝ) (l v : Fin n → ℝ) (p : Fin n → Prop) [DecidablePred p] :
    ∑ t, (v t : EReal) * Ideal.div (Ideal.exp ((if p t then (l t : EReal) else ⊥) - (μ : EReal)))
        (Ideal.exp ((a : EReal) - (μ : EReal)) + ∑ t, Ideal.exp ((if p t then (l t : EReal) else ⊥) - (μ : EReal)))
      = Ideal.div (∑ t, (if p t then Ideal.exp (l t : EReal) else 0) * (v t : EReal))
          (Ideal.exp (a : EReal) + ∑ t, if p t then Ideal.exp (l t : EReal) else 0) := by
  obtain ⟨e, hedef⟩ : ∃ e : Fin n → ℝ, ∀ t, e t = if p t then Real.exp (l t) else 0 := ⟨_, fun _ => rfl⟩
  have he : ∀ t, Ideal.exp ((if p t then (l t : EReal) else ⊥) - (μ : EReal)) = ((e t * Real.exp (-μ) : ℝ) : EReal) := by
    intro t
    rw [hedef]
    by_cases h : p t
    · simp only [h, if_true]
      rw [← EReal.coe_sub, Ideal.exp_coe, sub_eq_add_neg, Real.exp_add]
    · simp only [h, if_false]
      rw [EReal.bot_sub, Ideal.exp_bot, zero_mul, EReal.coe_zero]
  have hk : ∀ t, (if p t then Ideal.exp (l t : EReal) else 0) = ((e t : ℝ) : EReal) := by
    intro t
    rw [hedef]
    by_cases h : p t
    · simp only [h, if_true, Ideal.exp_coe]
    · simp only [h, if_false, EReal.coe_zero]
  have ha : Ideal.exp ((a : EReal) - (μ : EReal)) = ((Real.exp a * Real.exp (-μ) : ℝ) : EReal) := by
    rw [← EReal.coe_sub, Ideal.exp_coe, sub_eq_add_neg, Real.exp_add]
  simp only [he, hk, ha]
  rw [Ideal.exp_coe]
  have hpos : ∀ t, 0 ≤ e t := fun t => by
    by_cases h : p t
    · simp only [hedef, h, if_true]; exact (Real.exp_pos _).le
    · simp only [hedef, h, if_false]; exact le_rfl
  have hD : 0 < Real.exp a + ∑ t, e t := add_pos_of_pos_of_nonneg (Real.exp_pos _) (Finset.sum_nonneg fun t _ => hpos t)
  have hμ : 0 < Real.exp (-μ) := Real.exp_pos _
  have e1 : ((Real.exp a * Real.exp (-μ) : ℝ) : EReal) + ∑ t, ((e t * Real.exp (-μ) : ℝ) : EReal) = (((Real.exp a + ∑ t, e t) * Real.exp (-μ) : ℝ) : EReal) := by
    rw [coe_sum, ← EReal.coe_add, ← Finset.sum_mul, add_mul]
  have e2 : (Real.exp a : EReal) + ∑ t, ((e t : ℝ) : EReal) = ((Real.exp a + ∑ t, e t : ℝ) : EReal) := by
    rw [coe_sum, ← EReal.coe_add]
  rw [e1, e2, Ideal.div_coe hD.ne']
  have e3 : ∀ t, (v t : EReal) * Ideal.div ((e t * Real.exp (-μ) : ℝ) : EReal) (((Real.exp a + ∑ t, e t) * Real.exp (-μ) : ℝ) : EReal)
      = ((e t * v t * (1 / (Real.exp a + ∑ t, e t)) : ℝ) : EReal) := by
    intro t
    rw [Ideal.div_coe (mul_pos hD hμ).ne', ← EReal.coe_mul, ← EReal.coe_mul]
    refine congrArg _ ?_
    field_simp
  have e4 : ∀ t, ((e t : ℝ) : EReal) * (v t : EReal) = ((e t * v t : ℝ) : EReal) := fun t => (EReal.coe_mul _ _).symm
  simp only [e3, e4]
  rw [coe_sum, coe_sum, ← EReal.coe_mul, Finset.sum_mul]

/-- A power of two at a score scaled by `1 / log 2` is the exponential. -/
theorem exp2_log2e (a : ℝ) : Ideal.exp2 ((a : EReal) * (((Real.log 2)⁻¹ : ℝ) : EReal)) = Ideal.exp (a : EReal) := by
  rw [← EReal.coe_mul, Ideal.exp2_coe, Ideal.exp_coe]
  refine congrArg _ ?_
  show (2 : ℝ) ^ (a * (Real.log 2)⁻¹) = _
  rw [Real.rpow_def_of_pos (by norm_num)]
  have : Real.log 2 ≠ 0 := (Real.log_pos (by norm_num)).ne'
  congr 1
  field_simp

/-- The reference's scale is a real number. -/
theorem scale_eq : Ideal.div 1 (Ideal.sqrt (Ideal.ofBits .f32 0x43000000#32)) = (((Real.sqrt 128)⁻¹ : ℝ) : EReal) := by
  rw [ofBits_128, Ideal.sqrt_coe, if_neg (by norm_num : ¬ ((128 : ℝ) < 0)), Ideal.div_coe (Real.sqrt_pos.2 (by norm_num)).ne', one_mul, one_div]

/-- The kernel's power of two of a product of scaled queries with keys is the exponential of the scaled product. -/
theorem exp2_qscale {n : ℕ} (q k : Fin n → ℝ) :
    Ideal.exp2 (∑ d, (q d : EReal) * (((Real.log 2)⁻¹ * (Real.sqrt 128)⁻¹ : ℝ) : EReal) * (k d : EReal))
      = Ideal.exp (((∑ d, k d * q d) * (Real.sqrt 128)⁻¹ : ℝ) : EReal) := by
  rw [← exp2_log2e]
  refine congrArg _ ?_
  simp only [← EReal.coe_mul]
  rw [coe_sum]
  refine congrArg _ ?_
  rw [Finset.sum_mul, Finset.sum_mul]
  exact Finset.sum_congr rfl fun d _ => by ring

end Cert.Model
-- ==== Proof.Finite.lean ====
/- Real arguments give real key and query rows. -/
module

public import proofs.«01_k».proof.Proof.Model
public import proofs.«01_k».proof.Proof.Softmax

@[expose] public section

namespace Cert.Model

open Idealize.ShloMosaic

/-- Every entry is a real number. -/
def Reals {ι : Type} (f : ι → EReal) : Prop := ∀ i, ∃ r : ℝ, f i = (r : EReal)

/-- Every entry of a table is a real number. -/
def Reals₂ {ι κ : Type} (f : ι → κ → EReal) : Prop := ∀ i j, ∃ r : ℝ, f i j = (r : EReal)

theorem proj_reals {m n k : ℕ} {x : Fin m → Fin k → EReal} {w : Fin n → Fin k → EReal} (hx : Reals₂ x) (hw : Reals₂ w) : Reals₂ (proj x w) := by
  intro s d
  choose rx hrx using hx
  choose rw' hrw using hw
  refine ⟨∑ c, rx s c * rw' d c, ?_⟩
  unfold proj
  simp only [hrx, hrw, ← EReal.coe_mul]
  exact coe_sum _ _

theorem rms_reals {n : ℕ} {len : EReal} (L : ℝ) (hL : 0 < L) (hlen : len = (L : EReal)) {r g : Fin n → EReal} (hr : Reals r) (hg : Reals g) : Reals (rms len r g) := by
  intro d
  choose rr hrr using hr
  choose rg hrg using hg
  obtain ⟨e, he, hee⟩ := ofBits_eps
  unfold rms
  have hs : (∑ k, r k * r k) = ((∑ k, rr k * rr k : ℝ) : EReal) := by
    simp only [hrr, ← EReal.coe_mul]
    exact coe_sum _ _
  have hp : 0 < (∑ k, rr k * rr k) * (1 / L) + e := by
    have : 0 ≤ ∑ k, rr k * rr k := Finset.sum_nonneg fun k _ => mul_self_nonneg _
    positivity
  rw [hs, hlen, hee, Ideal.div_coe hL.ne', ← EReal.coe_mul, ← EReal.coe_add, Ideal.rsqrt_coe, if_neg hp.not_gt, if_neg hp.ne', hrr, hrg, ← EReal.coe_mul, ← EReal.coe_mul]
  exact ⟨_, rfl⟩

theorem keys_reals {m : ℕ} {x : Fin m → Fin 2048 → EReal} {wkv : Fin 128 → Fin 2048 → EReal} {gkv : Fin 128 → EReal} (hx : Reals₂ x) (hw : Reals₂ wkv)
    (hg : Reals gkv) : Reals₂ (keys x wkv gkv) := fun s =>
  rms_reals 128 (by norm_num) ofBits_128 (proj_reals hx hw s) hg

theorem query_reals {m : ℕ} {x : Fin m → Fin 2048 → EReal} {wqd : Fin 512 → Fin 2048 → EReal} {gq : Fin 512 → EReal} {wqu : Fin 2048 → Fin 512 → EReal}
    (hx : Reals₂ x) (hw : Reals₂ wqd) (hg : Reals gq) (hu : Reals₂ wqu) : Reals₂ (query x wqd gq wqu) :=
  proj_reals (fun s => rms_reals 512 (by norm_num) ofBits_512 (proj_reals hx hw s) hg) hu

end Cert.Model
-- ==== Proof.Inputs.lean ====
/- The input blocks the body finds at a point, in the arguments' own coordinates. -/
module

public import proofs.«01_k».proof.Proof.Run
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The grid's coordinates at a point. -/
theorem coords_val : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- The blocks the windows name at a point. -/
theorem idx : ∀ t : Fin cfg0.N, win0_0.index t = ![t.val / 4, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val / 4, 0] ∧ t.val / 4 < 8 :=
  (by decide +kernel : ∀ t : Fin grid0.N, _)

theorem lt_rows (t : Fin cfg0.N) (r : Fin 256) : 256 * (t.val / 4) + r.val < 2048 := by have := lt_N t; omega

/-- What the host's reshape left in a kernel operand. -/
theorem read_v0 (i : Shape.Idx S2048x2048) :
    (V m c main_call0_v0 : FVec Ideal S2048x2048 .f32) i = shapeCast (s := S1x2048x2048) S2048x2048 (m ((c : Thread nD τ).loc main_arg0) : FVec Ideal S1x2048x2048 .f32) (by decide) i := by
  refine congrFun ?_ i
  show StableHlo.after (hostOps0 ++ []) (fun b => m (c, b)) (Proc.tc.devRef main_call0_v0) = _
  rw [List.append_nil]
  after_results
  rfl

/-- What the host's reshape left in a kernel operand. -/
theorem read_v1 (i : Shape.Idx S1x512) :
    (V m c main_call0_v1 : FVec Ideal S1x512 .f32) i = shapeCast (s := S512) S1x512 (m ((c : Thread nD τ).loc main_arg2) : FVec Ideal S512 .f32) (by decide) i := by
  refine congrFun ?_ i
  show StableHlo.after (hostOps0 ++ []) (fun b => m (c, b)) (Proc.tc.devRef main_call0_v1) = _
  rw [List.append_nil]
  after_results
  rfl

/-- What the host's reshape left in a kernel operand. -/
theorem read_v2 (i : Shape.Idx S1x128) :
    (V m c main_call0_v2 : FVec Ideal S1x128 .f32) i = shapeCast (s := S128) S1x128 (m ((c : Thread nD τ).loc main_arg5) : FVec Ideal S128 .f32) (by decide) i := by
  refine congrFun ?_ i
  show StableHlo.after (hostOps0 ++ []) (fun b => m (c, b)) (Proc.tc.devRef main_call0_v2) = _
  rw [List.append_nil]
  after_results
  rfl

/-- What the host's reshape left in a kernel operand. -/
theorem read_v3 (i : Shape.Idx S1x16) :
    (V m c main_call0_v3 : FVec Ideal S1x16 .f32) i = shapeCast (s := S16) S1x16 (m ((c : Thread nD τ).loc main_arg6) : FVec Ideal S16 .f32) (by decide) i := by
  refine congrFun ?_ i
  show StableHlo.after (hostOps0 ++ []) (fun b => m (c, b)) (Proc.tc.devRef main_call0_v3) = _
  rw [List.append_nil]
  after_results
  rfl

theorem in_x (r : Fin 256) (k : Fin 2048) :
    ((insAt m c t).x2 : FVec Ideal S256x2048 .f32) (ix2 r k) = (m ((c : Thread nD τ).loc main_arg0) : FVec Ideal S1x2048x2048 .f32) (ix3 0 ⟨256 * (t.val / 4) + r.val, lt_rows t r⟩ k) := by
  show (iblk m c 0 t : FVec Ideal S256x2048 .f32) (ix2 r k) = _
  have e := read_v0 m c (ix2 ⟨256 * (t.val / 4) + r.val, lt_rows t r⟩ k)
  refine Eq.trans ?_ (e.trans ?_)
  · blk_ext [iblk, idx t]
  · pointwise

theorem in_wqd : ((insAt m c t).x3 : FVec Ideal S512x2048 .f32) = (m ((c : Thread nD τ).loc main_arg1) : FVec Ideal S512x2048 .f32) := by
  show (iblk m c 1 t : FVec Ideal S512x2048 .f32) = _
  blk_ext! [iblk, V, idx t]

theorem in_gq (d : Fin 512) : ((insAt m c t).x4 : FVec Ideal S1x512 .f32) (ix2 0 d) = (m ((c : Thread nD τ).loc main_arg2) : FVec Ideal S512 .f32) (ix1 d) := by
  show (iblk m c 2 t : FVec Ideal S1x512 .f32) (ix2 0 d) = _
  have e := read_v1 m c (ix2 0 d)
  refine Eq.trans ?_ (e.trans ?_)
  · blk_ext [iblk, idx t]
  · pointwise

theorem in_wqu : ((insAt m c t).x5 : FVec Ideal S2048x512 .f32) = (m ((c : Thread nD τ).loc main_arg3) : FVec Ideal S2048x512 .f32) := by
  show (iblk m c 3 t : FVec Ideal S2048x512 .f32) = _
  blk_ext! [iblk, V, idx t]

theorem in_wkv : ((insAt m c t).x6 : FVec Ideal S128x2048 .f32) = (m ((c : Thread nD τ).loc main_arg4) : FVec Ideal S128x2048 .f32) := by
  show (iblk m c 4 t : FVec Ideal S128x2048 .f32) = _
  blk_ext! [iblk, V, idx t]

theorem in_gkv (d : Fin 128) : ((insAt m c t).x7 : FVec Ideal S1x128 .f32) (ix2 0 d) = (m ((c : Thread nD τ).loc main_arg5) : FVec Ideal S128 .f32) (ix1 d) := by
  show (iblk m c 5 t : FVec Ideal S1x128 .f32) (ix2 0 d) = _
  have e := read_v2 m c (ix2 0 d)
  refine Eq.trans ?_ (e.trans ?_)
  · blk_ext [iblk, idx t]
  · pointwise

theorem in_sink (h : Fin 16) : ((insAt m c t).x8 : FVec Ideal S1x16 .f32) (ix2 0 h) = (m ((c : Thread nD τ).loc main_arg6) : FVec Ideal S16 .f32) (ix1 h) := by
  show (iblk m c 6 t : FVec Ideal S1x16 .f32) (ix2 0 h) = _
  have e := read_v3 m c (ix2 0 h)
  refine Eq.trans ?_ (e.trans ?_)
  · blk_ext [iblk, idx t]
  · pointwise

theorem in_wod : ((insAt m c t).x9 : FVec Ideal S512x512 .f32) = (m ((c : Thread nD τ).loc main_arg7) : FVec Ideal S512x512 .f32) := by
  show (iblk m c 7 t : FVec Ideal S512x512 .f32) = _
  blk_ext! [iblk, V, idx t]

theorem in_wou : ((insAt m c t).x10 : FVec Ideal S2048x512 .f32) = (m ((c : Thread nD τ).loc main_arg8) : FVec Ideal S2048x512 .f32) := by
  show (iblk m c 8 t : FVec Ideal S2048x512 .f32) = _
  blk_ext! [iblk, V, idx t]

end Cert.KernelIdeal.Hand

end
-- ==== Proof.KernelValue.lean ====
/- The kernel's pure values, read at an index over the extended reals. -/
module

public import proofs.«01_k».proof.Proof.Model
public import proofs.«01_k».proof.Proof.Consts
public import proofs.«01_k».proof.Proof.PhaseRuns
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Model

/-! ## Blocks stacked and side by side -/

/-- Blocks of `K` rows stacked. -/
def stack {α : Type} {N K C M : ℕ} (f : Fin N → ((⟨2, ![K, C]⟩ : Shape).Idx → α))
    (h : Shape.Concatenates ((List.ofFn fun n : Fin N => (⟨⟨2, ![K, C]⟩, f n⟩ : (s : Shape) × (s.Idx → α))).map (·.1)) ⟨2, ![M, C]⟩ 0) :
    (⟨2, ![M, C]⟩ : Shape).Idx → α :=
  concatenate ⟨2, ![M, C]⟩ 0 (List.ofFn fun n : Fin N => (⟨⟨2, ![K, C]⟩, f n⟩ : (s : Shape) × (s.Idx → α))) h

/-- Blocks of `K` rows stacked, read at row `n K + r`. -/
theorem stacked_at {α : Type} {N K C M : ℕ} (f : Fin N → ((⟨2, ![K, C]⟩ : Shape).Idx → α))
    (h : Shape.Concatenates ((List.ofFn fun n : Fin N => (⟨⟨2, ![K, C]⟩, f n⟩ : (s : Shape) × (s.Idx → α))).map (·.1)) ⟨2, ![M, C]⟩ 0)
    (n : Fin N) (r : Fin K) (d : Fin C) (hb : n.val * K + r.val < M) :
    stack f h (ix2 ⟨n.val * K + r.val, hb⟩ d) = f n (ix2 r d) := by
  unfold stack
  have hK : 0 < K := Nat.lt_of_le_of_lt (Nat.zero_le _) r.isLt
  refine concatenate_ofFn_apply (t := ⟨2, ![M, C]⟩) (0 : Fin 2) f h rfl K rfl _ n ?_ (ix2 r d) ?_ ?_
  · show (n.val * K + r.val) / K = n.val
    rw [Nat.mul_comm, Nat.mul_add_div hK, Nat.div_eq_of_lt r.isLt, Nat.add_zero]
  · show r.val = (n.val * K + r.val) % K
    rw [Nat.mul_comm, Nat.mul_add_mod, Nat.mod_eq_of_lt r.isLt]
  · intro b hb'
    match b with
    | ⟨0, _⟩ => exact absurd rfl hb'
    | ⟨1, _⟩ => rfl

/-- Blocks of `K` columns side by side, read at column `n K + d`. -/
theorem beside_at {α : Type} {N K C M : ℕ} (f : Fin N → ((⟨2, ![C, K]⟩ : Shape).Idx → α))
    (h : Shape.Concatenates ((List.ofFn fun n : Fin N => (⟨⟨2, ![C, K]⟩, f n⟩ : (s : Shape) × (s.Idx → α))).map (·.1)) ⟨2, ![C, M]⟩ 1)
    (n : Fin N) (r : Fin C) (d : Fin K) (hb : n.val * K + d.val < M) :
    concatenate ⟨2, ![C, M]⟩ 1 (List.ofFn fun n : Fin N => (⟨⟨2, ![C, K]⟩, f n⟩ : (s : Shape) × (s.Idx → α))) h (ix2 r ⟨n.val * K + d.val, hb⟩) = f n (ix2 r d) := by
  have hK : 0 < K := Nat.lt_of_le_of_lt (Nat.zero_le _) d.isLt
  refine concatenate_ofFn_apply (t := ⟨2, ![C, M]⟩) (1 : Fin 2) f h rfl K rfl _ n ?_ (ix2 r d) ?_ ?_
  · show (n.val * K + d.val) / K = n.val
    rw [Nat.mul_comm, Nat.mul_add_div hK, Nat.div_eq_of_lt d.isLt, Nat.add_zero]
  · show d.val = (n.val * K + d.val) % K
    rw [Nat.mul_comm, Nat.mul_add_mod, Nat.mod_eq_of_lt d.isLt]
  · intro b hb'
    match b with
    | ⟨0, _⟩ => rfl
    | ⟨1, _⟩ => exact absurd rfl hb'

/-! ## The weights, the key/value rows, the queries -/

theorem pay1_eq (x : FVec Ideal S512x2048 .f32) : k0_pay1 (F := Ideal) x = x := by
  funext i; pointwise [k0_pay1]
theorem pay2_eq (x : FVec Ideal S2048x512 .f32) : k0_pay2 (F := Ideal) x = x := by
  funext i; pointwise [k0_pay2]
theorem pay3_eq (x : FVec Ideal S128x2048 .f32) : k0_pay3 (F := Ideal) x = x := by
  funext i; pointwise [k0_pay3]
theorem pay4_eq (x : FVec Ideal S512x512 .f32) : k0_pay4 (F := Ideal) x = x := by
  funext i; pointwise [k0_pay4]
theorem pay5_eq (x : FVec Ideal S2048x512 .f32) : k0_pay5 (F := Ideal) x = x := by
  funext i; pointwise [k0_pay5]

theorem pay12_at (x : FVec Ideal S256x2048 .f32) (w : FVec Ideal S128x2048 .bf16) (g : FVec Ideal S1x128 .f32) (r : Fin 256) (d : Fin 128) :
    k0_pay12 (F := Ideal) x w g (ix2 r d) = keys (fun s k => x (ix2 s k)) (fun d k => w (ix2 d k)) (fun d => g (ix2 0 d)) r d := by
  pointwise [k0_pay12, k0_pay11, keys, rms, proj]

/-- The query rows before they are stacked head by head. -/
def queryFlat (v52 : FVec Ideal S256x512 .f32) (v54 : FVec Ideal S1x512 .f32) (v58 : FVec Ideal S2048x512 .bf16) : FVec Ideal S256x2048 .bf16 :=
  truncf .bf16 (mulf (matmul dot_S256x512_S2048x512_S256x2048_1_1_0_0_n_n none (truncf .bf16 (mulf v52 (broadcastTo S256x512 v54 broadcasts_S1x512_S256x512)) bitsLt_bf16_f32) v58 (constant S256x2048 .f32 0x00000000#32)) (broadcast S256x2048 (Named.named (F := Ideal) κ "qscale" (φ := .f32) 0x3E0293EE#32))) bitsLt_bf16_f32

theorem slices_head (n : Fin 16) : S256x2048.Slices ![0, 128 * n.val] S256x128 := ⟨rfl, fun a => by
  match a with
  | ⟨0, _⟩ => exact Nat.le_refl _
  | ⟨1, _⟩ => show 128 * n.val + 128 ≤ 2048; omega⟩

theorem pay15_stacked (v52 : FVec Ideal S256x512 .f32) (v54 : FVec Ideal S1x512 .f32) (v58 : FVec Ideal S2048x512 .bf16) :
    ∃ hc, k0_pay15 (F := Ideal) v52 v54 v58 = shapeCast S4096x128 (stack (α := EReal) (N := 16) (K := 256) (C := 128) (M := 4096)
      (fun n : Fin 16 => extractStridedSlice S256x128 ![0, 128 * n.val] (queryFlat v52 v54 v58) (slices_head n)) hc) shapeCasts_S4096x128_S4096x128 :=
  ⟨concatenates_S256x128_S256x128_S256x128_S256x128_S256x128_S256x128_S256x128_S256x128_S256x128_S256x128_S256x128_S256x128_S256x128_S256x128_S256x128_S256x128_S4096x128_d0,
    rfl⟩

theorem qscale_eq : Named.named (F := Ideal) κ "qscale" (φ := .f32) 0x3E0293EE#32 = (((Real.log 2)⁻¹ * (Real.sqrt 128)⁻¹ : ℝ) : EReal) :=
  IdealRules.named_const.ideal_named_scalar _ _ _ _ rfl

theorem log2e_eq : Named.named (F := Ideal) κ "log2e" (φ := .f32) 0x3FB8AA3B#32 = (((Real.log 2)⁻¹ : ℝ) : EReal) :=
  IdealRules.named_const.ideal_named_scalar _ _ _ _ rfl

theorem queryFlat_at (x : FVec Ideal S256x2048 .f32) (wqd : FVec Ideal S512x2048 .bf16) (g : FVec Ideal S1x512 .f32) (wqu : FVec Ideal S2048x512 .bf16)
    (r : Fin 256) (n : Fin 2048) :
    queryFlat (k0_pay13 (F := Ideal) x wqd) (k0_pay14 (F := Ideal) g) wqu (ix2 r n)
      = query (fun s k => x (ix2 s k)) (fun d k => wqd (ix2 d k)) (fun d => g (ix2 0 d)) (fun n d => wqu (ix2 n d)) r n
        * (((Real.log 2)⁻¹ * (Real.sqrt 128)⁻¹ : ℝ) : EReal) := by
  rw [← qscale_eq]
  pointwise [queryFlat, k0_pay13, k0_pay14, k0_pay11, query, lowQuery, rms, proj]

theorem queryBlock_at (x : FVec Ideal S256x2048 .f32) (wqd : FVec Ideal S512x2048 .bf16) (g : FVec Ideal S1x512 .f32) (wqu : FVec Ideal S2048x512 .bf16)
    (h : Fin 16) (r : Fin 256) (d : Fin 128) :
    queryBlock (F := Ideal) x wqd g wqu (ix2 ⟨h.val * 256 + r.val, by omega⟩ d)
      = query (fun s k => x (ix2 s k)) (fun d k => wqd (ix2 d k)) (fun d => g (ix2 0 d)) (fun n d => wqu (ix2 n d)) r (col h d)
        * (((Real.log 2)⁻¹ * (Real.sqrt 128)⁻¹ : ℝ) : EReal) := by
  unfold queryBlock
  obtain ⟨hc, e⟩ := pay15_stacked (k0_pay13 (F := Ideal) x wqd) (k0_pay14 (F := Ideal) g) wqu
  rw [e, shapeCast_self]
  refine (stacked_at _ hc h r d (by omega)).trans ?_
  rw [← queryFlat_at]
  exact congrArg (queryFlat (k0_pay13 (F := Ideal) x wqd) (k0_pay14 (F := Ideal) g) wqu) (funext fun a => by
    match a with
    | ⟨0, _⟩ => exact Fin.ext (Nat.zero_add r.val)
    | ⟨1, _⟩ => exact Fin.ext (by show 128 * h.val + d.val = h.val * 128 + d.val; omega))

/-! ## The sinks -/

theorem slices_sink (n : Fin 16) : S1x16.Slices ![0, n.val] S1x1 := ⟨rfl, fun a => by
  match a with
  | ⟨0, _⟩ => exact Nat.le_refl _
  | ⟨1, _⟩ => show n.val + 1 ≤ 16; omega⟩

theorem sinkBlock_stacked (x8 : FVec Ideal S1x16 .f32) :
    ∃ hc, sinkBlock (F := Ideal) x8 = shapeCast S4096x1 (stack (α := EReal) (N := 16) (K := 256) (C := 1) (M := 4096)
      (fun n : Fin 16 => broadcast S256x1 (extractAt ![0, 0] (extractStridedSlice S1x1 ![0, n.val] (k0_pay17 (F := Ideal) x8) (slices_sink n)) inpos_S1x1_p0_0)) hc) shapeCasts_S4096x1_S4096x1 :=
  ⟨concatenates_S256x1_S256x1_S256x1_S256x1_S256x1_S256x1_S256x1_S256x1_S256x1_S256x1_S256x1_S256x1_S256x1_S256x1_S256x1_S256x1_S4096x1_d0,
    rfl⟩

theorem sinkBlock_at (x8 : FVec Ideal S1x16 .f32) (h : Fin 16) (r : Fin 256) :
    sinkBlock (F := Ideal) x8 (ix2 ⟨h.val * 256 + r.val, by omega⟩ 0) = Ideal.exp2 (x8 (ix2 0 h) * (((Real.log 2)⁻¹ : ℝ) : EReal)) := by
  obtain ⟨hc, e⟩ := sinkBlock_stacked x8
  rw [e, shapeCast_self, ← log2e_eq]
  refine (stacked_at _ hc h r 0 (by omega)).trans ?_
  pointwise [k0_pay17]
  rfl

/-! ## The exponentials and what they are added to -/

theorem mask_word (i : Fin 8) (j : Fin 4) (R : Fin 4096) (c : Fin 512) :
    IntOp.cmpi .sle (IntOp.addi (IntOp.muli (BitVec.ofNat 32 j.val) 512#32) (BitVec.ofNat 32 c.val))
      (IntOp.addi (IntOp.muli (BitVec.ofNat 32 i.val) 256#32) (IntOp.andi (BitVec.ofNat 32 R.val) 255#32))
      = BitVec.ofBool (decide (j.val * 512 + c.val ≤ i.val * 256 + R.val % 256)) := by
  have e1 : IntOp.addi (IntOp.muli (BitVec.ofNat 32 j.val) 512#32) (BitVec.ofNat 32 c.val) = BitVec.ofNat 32 (j.val * 512 + c.val) := by
    show BitVec.ofNat 32 j.val * 512#32 + BitVec.ofNat 32 c.val = _
    apply BitVec.eq_of_toNat_eq
    simp [BitVec.toNat_ofNat]
  have e3 : IntOp.andi (BitVec.ofNat 32 R.val) 255#32 = BitVec.ofNat 32 (R.val % 256) := by
    show BitVec.ofNat 32 R.val &&& 255#32 = _
    apply BitVec.eq_of_toNat_eq
    rw [BitVec.toNat_and, BitVec.toNat_ofNat, BitVec.toNat_ofNat, BitVec.toNat_ofNat, Nat.mod_eq_of_lt (by omega), Nat.mod_eq_of_lt (by omega), Nat.mod_eq_of_lt (by omega : R.val % 256 < 2 ^ 32)]
    exact Nat.and_two_pow_sub_one_eq_mod R.val 8
  have e2 : IntOp.addi (IntOp.muli (BitVec.ofNat 32 i.val) 256#32) (BitVec.ofNat 32 (R.val % 256)) = BitVec.ofNat 32 (i.val * 256 + R.val % 256) := by
    show BitVec.ofNat 32 i.val * 256#32 + BitVec.ofNat 32 (R.val % 256) = _
    apply BitVec.eq_of_toNat_eq
    simp [BitVec.toNat_ofNat]
  rw [e3, e1, e2, WordCmp.cmpi_sle_ofNat (by omega) (by omega)]

theorem pay8_at (i : grid0.Coords) (K : FVec Ideal S512x128 .bf16) (Q : FVec Ideal S4096x128 .bf16) (R : Fin 4096) (c : Fin 512) :
    k0_pay8 (F := Ideal) i K Q (ix2 R c)
      = if (i 1).val * 512 + c.val ≤ (i 0).val * 256 + R.val % 256 then Ideal.exp2 (∑ d : Fin 128, Q (ix2 R d) * K (ix2 c d)) else 0 := by
  have hm := mask_word (i 0) (i 1) R c
  pointwise [k0_pay8]
  refine (congrArg (fun b => Scalar.select b (Ideal.exp2 (∑ d : Fin 128, Q (ix2 R d) * K (ix2 c d))) 0) hm).trans ?_
  by_cases hc : (i 1).val * 512 + c.val ≤ (i 0).val * 256 + R.val % 256
  · simp only [hc, decide_true, if_true]
    rfl
  · simp only [hc, decide_false, if_false]
    rfl

theorem pay9_at (i : grid0.Coords) (K : FVec Ideal S512x128 .bf16) (Q : FVec Ideal S4096x128 .bf16) (den : FVec Ideal S4096x1 .f32) (R : Fin 4096) :
    k0_pay9 (F := Ideal) i K Q den (ix2 R 0) = den (ix2 R 0) + ∑ c : Fin 512, k0_pay8 (F := Ideal) i K Q (ix2 R c) := by
  pointwise [k0_pay9]

theorem pay10_at (i : grid0.Coords) (K : FVec Ideal S512x128 .bf16) (Q : FVec Ideal S4096x128 .bf16) (acc : FVec Ideal S4096x128 .f32) (R : Fin 4096) (d : Fin 128) :
    k0_pay10 (F := Ideal) i K Q acc (ix2 R d) = acc (ix2 R d) + ∑ c : Fin 512, k0_pay8 (F := Ideal) i K Q (ix2 R c) * K (ix2 c d) := by
  pointwise [k0_pay10]

theorem pay16_at (R : Fin 4096) (d : Fin 128) : k0_pay16 (F := Ideal) (ix2 R d) = (0 : EReal) := by
  pointwise [k0_pay16]

/-! ## The result block -/

/-- The attention outputs, heads stacked. -/
def outStacked (acc : FVec Ideal S4096x128 .f32) (den : FVec Ideal S4096x1 .f32) : FVec Ideal S4096x128 .f32 :=
  divf acc (broadcastTo S4096x128 den broadcasts_S4096x1_S4096x128)

theorem slices_stacked (n : Fin 16) : S4096x128.Slices ![256 * n.val, 0] S256x128 := ⟨rfl, fun a => by
  match a with
  | ⟨0, _⟩ => show 256 * n.val + 256 ≤ 4096; omega
  | ⟨1, _⟩ => exact Nat.le_refl _⟩

/-- The attention outputs, heads side by side. -/
def outBeside (acc : FVec Ideal S4096x128 .f32) (den : FVec Ideal S4096x1 .f32) : FVec Ideal S256x2048 .f32 :=
  concatenate S256x2048 1 (List.ofFn fun n : Fin 16 =>
    (⟨S256x128, extractStridedSlice S256x128 ![256 * n.val, 0] (outStacked acc den) (slices_stacked n)⟩ : (s : Shape) × (s.Idx → EReal)))
    concatenates_S256x128_S256x128_S256x128_S256x128_S256x128_S256x128_S256x128_S256x128_S256x128_S256x128_S256x128_S256x128_S256x128_S256x128_S256x128_S256x128_S256x2048_d1

theorem slices_group (n : Fin 4) : S256x2048.Slices ![0, 512 * n.val] S256x512 := ⟨rfl, fun a => by
  match a with
  | ⟨0, _⟩ => exact Nat.le_refl _
  | ⟨1, _⟩ => show 512 * n.val + 512 ≤ 2048; omega⟩

theorem inb_group (n : Fin 4) : ∀ a, (![128 * n.val, 0] : Fin 2 → ℕ) a + S128x512.size a ≤ S512x512.size a := fun a => by
  match a with
  | ⟨0, _⟩ => show 128 * n.val + 128 ≤ 512; omega
  | ⟨1, _⟩ => exact Nat.le_refl _

/-- The grouped low-rank rows. -/
def lowBeside (acc : FVec Ideal S4096x128 .f32) (den : FVec Ideal S4096x1 .f32) (wd : FVec Ideal S512x512 .bf16) : FVec Ideal S256x512 .f32 :=
  concatenate S256x512 1 (List.ofFn fun n : Fin 4 =>
    (⟨S256x128, matmul (F := Ideal) dot_S256x512_S128x512_S256x128_1_1_0_0_n_n none (truncf .bf16 (extractStridedSlice S256x512 ![0, 512 * n.val] (outBeside acc den) (slices_group n)) bitsLt_bf16_f32)
      (VecWindow.window wd ![128 * n.val, 0] S128x512.size (inb_group n) : FVec Ideal S128x512 .bf16) (constant S256x128 .f32 0x00000000#32)⟩ : (s : Shape) × (s.Idx → EReal)))
    concatenates_S256x128_S256x128_S256x128_S256x128_S256x512_d1

theorem resultBlock_stages (acc : FVec Ideal S4096x128 .f32) (den : FVec Ideal S4096x1 .f32) (wd : FVec Ideal S512x512 .bf16) (wu : FVec Ideal S2048x512 .bf16) :
    resultBlock (F := Ideal) acc den wd wu = matmul (F := Ideal) dot_S256x512_S2048x512_S256x2048_1_1_0_0_n_n none (truncf .bf16 (lowBeside acc den wd) bitsLt_bf16_f32) wu (constant S256x2048 .f32 0x00000000#32) := rfl

theorem outStacked_at (acc : FVec Ideal S4096x128 .f32) (den : FVec Ideal S4096x1 .f32) (R : Fin 4096) (d : Fin 128) :
    outStacked acc den (ix2 R d) = Ideal.div (acc (ix2 R d)) (den (ix2 R 0)) := by
  pointwise [outStacked]

theorem outBeside_at (acc : FVec Ideal S4096x128 .f32) (den : FVec Ideal S4096x1 .f32) (r : Fin 256) (h : Fin 16) (d : Fin 128) :
    outBeside acc den (ix2 r ⟨h.val * 128 + d.val, by omega⟩)
      = Ideal.div (acc (ix2 ⟨h.val * 256 + r.val, by omega⟩ d)) (den (ix2 ⟨h.val * 256 + r.val, by omega⟩ 0)) := by
  unfold outBeside
  refine (beside_at (α := EReal) (N := 16) (K := 128) (C := 256) (M := 2048) (fun n : Fin 16 => extractStridedSlice S256x128 ![256 * n.val, 0] (outStacked acc den) (slices_stacked n)) _ h r d (by omega)).trans ?_
  rw [← outStacked_at]
  refine congrArg (outStacked acc den) ?_
  idx_ext
  all_goals (simp; try omega)

theorem window_group (wd : FVec Ideal S512x512 .bf16) (n : Fin 4) (c : Fin 128) (f : Fin 512) :
    (VecWindow.window wd ![128 * n.val, 0] S128x512.size (inb_group n) : FVec Ideal S128x512 .bf16) (ix2 c f) = wd (ix2 ⟨128 * n.val + c.val, by omega⟩ f) := by
  refine congrArg wd ?_
  funext a
  match a with
  | ⟨0, _⟩ => apply Fin.ext; show 128 * n.val + 1 * c.val = _; simp
  | ⟨1, _⟩ => apply Fin.ext; show 0 + 1 * f.val = _; simp

theorem lowBeside_at (acc : FVec Ideal S4096x128 .f32) (den : FVec Ideal S4096x1 .f32) (wd : FVec Ideal S512x512 .bf16) (r : Fin 256) (g : Fin 4) (c : Fin 128) :
    lowBeside acc den wd (ix2 r ⟨g.val * 128 + c.val, by omega⟩)
      = ∑ f : Fin 512, outBeside acc den (ix2 r ⟨512 * g.val + f.val, by omega⟩) * wd (ix2 ⟨128 * g.val + c.val, by omega⟩ f) := by
  unfold lowBeside
  refine (beside_at (α := EReal) (N := 4) (K := 128) (C := 256) (M := 512) (fun n : Fin 4 => matmul (F := Ideal) dot_S256x512_S128x512_S256x128_1_1_0_0_n_n none (truncf .bf16 (extractStridedSlice S256x512 ![0, 512 * n.val] (outBeside acc den) (slices_group n)) bitsLt_bf16_f32)
      (VecWindow.window wd ![128 * n.val, 0] S128x512.size (inb_group n) : FVec Ideal S128x512 .bf16) (constant S256x128 .f32 0x00000000#32)) _ g r c (by omega)).trans ?_
  simp only [← window_group]
  pointwise

theorem resultBlock_at (acc : FVec Ideal S4096x128 .f32) (den : FVec Ideal S4096x1 .f32) (wd : FVec Ideal S512x512 .bf16) (wu : FVec Ideal S2048x512 .bf16)
    (r : Fin 256) (n : Fin 2048) :
    resultBlock (F := Ideal) acc den wd wu (ix2 r n)
      = output (fun (r : Fin 256) h d => Ideal.div (acc (ix2 ⟨h.val * 256 + r.val, by omega⟩ d)) (den (ix2 ⟨h.val * 256 + r.val, by omega⟩ 0)))
          (fun c f => wd (ix2 c f)) (fun n c => wu (ix2 n c)) r n := by
  rw [resultBlock_stages]
  have e : ∀ c : Fin 512, lowBeside acc den wd (ix2 r c) = grouped (fun (r : Fin 256) h d => Ideal.div (acc (ix2 ⟨h.val * 256 + r.val, by omega⟩ d)) (den (ix2 ⟨h.val * 256 + r.val, by omega⟩ 0))) (fun c f => wd (ix2 c f)) r c := by
    intro c
    have hc : c = ⟨(⟨c.val / 128, by omega⟩ : Fin 4).val * 128 + (⟨c.val % 128, by omega⟩ : Fin 128).val, by show c.val / 128 * 128 + c.val % 128 < 512; omega⟩ := Fin.ext (by show c.val = c.val / 128 * 128 + c.val % 128; omega)
    conv_lhs => rw [hc]
    rw [lowBeside_at]
    unfold grouped
    refine Finset.sum_congr rfl fun f _ => ?_
    have hw : wd (ix2 ⟨128 * (c.val / 128) + c.val % 128, by omega⟩ f) = wd (ix2 c f) := congrArg wd (congrArg (fun z => ix2 z f) (Fin.ext (by show 128 * (c.val / 128) + c.val % 128 = c.val; omega)))
    have ho := outBeside_at acc den r ⟨c.val / 128 * 4 + f.val / 128, by omega⟩ ⟨f.val % 128, by omega⟩
    have hi : (⟨512 * (c.val / 128) + f.val, by omega⟩ : Fin 2048) = ⟨(c.val / 128 * 4 + f.val / 128) * 128 + f.val % 128, by omega⟩ := Fin.ext (by show 512 * (c.val / 128) + f.val = (c.val / 128 * 4 + f.val / 128) * 128 + f.val % 128; omega)
    refine congrArg₂ (· * ·) ?_ hw
    exact (congrArg (fun z => outBeside acc den (ix2 r z)) hi).trans ho
  unfold output proj
  simp only [← e]
  pointwise

end Cert.KernelIdeal.Hand

end
-- ==== Proof.Attend.lean ====
/- How the accumulator and the denominator of a query block grow, key block by key block. -/
module

public import proofs.«01_k».proof.Proof.Body
public import proofs.«01_k».proof.Proof.KernelValue

@[expose] public section

set_option maxRecDepth 16384

noncomputable section

namespace Cert.KernelIdeal.Hand

open Cert.KernelIdeal Cert.KernelIdeal.Gen Idealize.ShloMosaic Idealize.ShloMosaic.TcCoe Idealize.SL.Sem
open Cert.Model

/-- Row `r` of query block `i`. -/
def row (i : Fin 8) (r : Fin 256) : Fin 2048 := ⟨256 * i.val + r.val, by omega⟩

/-- Row `r` of head `h`, heads stacked. -/
def stacked (h : Fin 16) (r : Fin 256) : Fin 4096 := ⟨h.val * 256 + r.val, by omega⟩

/-- A table of key rows, zero past its end. -/
def ext (K : Fin 2048 → Fin 128 → EReal) (t : ℕ) (d : Fin 128) : EReal := if h : t < 2048 then K ⟨t, h⟩ d else 0

theorem ext_lt (K : Fin 2048 → Fin 128 → EReal) (t : Fin 2048) (d : Fin 128) : ext K t.val d = K t d := dif_pos t.isLt

/-- The weight of key row `t` for a query at position `s`: none when the key is in the query's future. -/
def weight (K : Fin 2048 → Fin 128 → EReal) (q : Fin 128 → EReal) (s t : ℕ) : EReal :=
  if t ≤ s then Ideal.exp2 (∑ d, q d * ext K t d) else 0

/-- The scale the kernel folds into its queries. -/
def qs : EReal := (((Real.log 2)⁻¹ * (Real.sqrt 128)⁻¹ : ℝ) : EReal)

/-- The scratch midway through query block `i`: the key rows of the query blocks so far, the block's scaled queries, and the
    sums over the first `N` key rows. -/
structure Mid (K : Fin 2048 → Fin 128 → EReal) (Q : Fin 2048 → Fin 2048 → EReal) (sink : Fin 16 → EReal) (i : Fin 8) (N : ℕ)
    (s : Scr Ideal) : Prop where
  kv : ∀ (t : Fin 2048) (d : Fin 128), t.val < 256 * (i.val + 1) → (s.kv : FVec Ideal S2048x128 .bf16) (ix2 t d) = K t d
  q : ∀ h r d, (s.q : FVec Ideal S4096x128 .bf16) (ix2 (stacked h r) d) = Q (row i r) (col h d) * qs
  den : ∀ h r, (s.den : FVec Ideal S4096x1 .f32) (ix2 (stacked h r) 0)
    = Ideal.exp2 (sink h * (((Real.log 2)⁻¹ : ℝ) : EReal)) + ∑ t ∈ Finset.range N, weight K (fun d => Q (row i r) (col h d) * qs) (256 * i.val + r.val) t
  acc : ∀ h r d, (s.acc : FVec Ideal S4096x128 .f32) (ix2 (stacked h r) d)
    = ∑ t ∈ Finset.range N, weight K (fun d => Q (row i r) (col h d) * qs) (256 * i.val + r.val) t * ext K t d

variable {K : Fin 2048 → Fin 128 → EReal} {Q : Fin 2048 → Fin 2048 → EReal} {sink : Fin 16 → EReal}

theorem key_lt (g : grid0.Coords) (c : Fin 512) : 512 * (g 1).val + c.val < 2048 := by
  have : (g 1).val < 4 := (g 1).isLt
  omega

theorem keyRows_at (g : grid0.Coords) (x : FVec Ideal S2048x128 .bf16) (c : Fin 512) (d : Fin 128) :
    keyRows (F := Ideal) g x (ix2 c d) = x (ix2 ⟨512 * (g 1).val + c.val, key_lt g c⟩ d) := by
  unfold keyRows VecWindow.window
  refine congrArg x ?_
  funext a
  match a with
  | ⟨0, _⟩ => apply Fin.ext; show 512 * (g 1).val + 1 * c.val = _; simp
  | ⟨1, _⟩ => apply Fin.ext; show 0 + 1 * d.val = _; simp

theorem row_lt (g : grid0.Coords) (r : Fin 256) : 256 * (g 0).val + r.val < 2048 := by
  have : (g 0).val < 8 := (g 0).isLt
  omega

theorem putRows_in (g : grid0.Coords) (x : FVec Ideal S2048x128 .bf16) (w : FVec Ideal S256x128 .bf16) (t : Fin 2048) (r : Fin 256) (d : Fin 128)
    (ht : t.val = 256 * (g 0).val + r.val) : putRows (F := Ideal) g x w (ix2 t d) = w (ix2 r d) := by
  unfold putRows VecWindow.put
  rw [dif_pos (fun a => by
    match a with
    | ⟨0, _⟩ => exact ⟨show 256 * (g 0).val ≤ t.val by omega, show t.val < 256 * (g 0).val + 256 by omega⟩
    | ⟨1, _⟩ => exact ⟨Nat.zero_le _, show d.val < 0 + 128 by omega⟩)]
  refine congrArg w ?_
  funext a
  match a with
  | ⟨0, _⟩ => apply Fin.ext; show t.val - 256 * (g 0).val = r.val; omega
  | ⟨1, _⟩ => apply Fin.ext; show d.val - 0 = d.val; omega

theorem putRows_out (g : grid0.Coords) (x : FVec Ideal S2048x128 .bf16) (w : FVec Ideal S256x128 .bf16) (t : Fin 2048) (d : Fin 128)
    (ht : t.val < 256 * (g 0).val) : putRows (F := Ideal) g x w (ix2 t d) = x (ix2 t d) := by
  unfold putRows VecWindow.put
  rw [dif_neg]
  intro h
  have h0 : 256 * (g 0).val ≤ t.val := (h (0 : Fin 2)).1
  omega

/-- A query block set up: no key row taken yet. -/
theorem mid_start (i : Fin 8) (g : grid0.Coords) (hg : (g 0).val = i.val) (x : Ins Ideal) (s : Scr Ideal) (hdue : k0_cond2 g = 1#1)
    (hkv : ∀ (t : Fin 2048) (d : Fin 128), t.val < 256 * i.val → (s.kv : FVec Ideal S2048x128 .bf16) (ix2 t d) = K t d)
    (hK : ∀ r d, k0_pay12 (F := Ideal) x.x2 s.w18 x.x7 (ix2 r d) = K (row i r) d)
    (hQ : ∀ h r d, queryBlock (F := Ideal) x.x2 s.w16 x.x4 s.w17 (ix2 (stacked h r) d) = Q (row i r) (col h d) * qs)
    (hs : ∀ h r, sinkBlock (F := Ideal) x.x8 (ix2 (stacked h r) 0) = Ideal.exp2 (sink h * (((Real.log 2)⁻¹ : ℝ) : EReal))) :
    Mid K Q sink i 0 (step2 g x s) := by
  unfold step2
  rw [if_pos hdue]
  refine ⟨fun t d ht => ?_, hQ, fun h r => ?_, fun h r d => ?_⟩
  · by_cases h : t.val < 256 * i.val
    · exact (putRows_out g _ _ t d (by omega)).trans (hkv t d h)
    · have hr : t.val - 256 * i.val < 256 := by omega
      refine (putRows_in g _ _ t ⟨t.val - 256 * i.val, hr⟩ d (by show t.val = 256 * (g 0).val + (t.val - 256 * i.val); omega)).trans ((hK _ d).trans ?_)
      refine congrArg (fun u => K u d) (Fin.ext ?_)
      show 256 * i.val + (t.val - 256 * i.val) = t.val
      omega
  · rw [Finset.range_zero, Finset.sum_empty, add_zero]
    exact hs h r
  · rw [Finset.range_zero, Finset.sum_empty]
    exact pay16_at (stacked h r) d

/-- The kernel's weight of a key row of the block at hand. -/
theorem weight_at {N : ℕ} (i : Fin 8) (g : grid0.Coords) (hg : (g 0).val = i.val) (s : Scr Ideal) (hm : Mid K Q sink i N s) (h : Fin 16) (r : Fin 256) (c : Fin 512) :
    k0_pay8 (F := Ideal) g (keyRows g s.kv) s.q (ix2 (stacked h r) c)
      = weight K (fun d => Q (row i r) (col h d) * qs) (256 * i.val + r.val) (512 * (g 1).val + c.val) := by
  rw [pay8_at]
  have e : (stacked h r).val % 256 = r.val := by show (h.val * 256 + r.val) % 256 = r.val; omega
  unfold weight
  rw [e, hg]
  by_cases hle : 512 * (g 1).val + c.val ≤ 256 * i.val + r.val
  · rw [if_pos (by omega), if_pos hle]
    refine congrArg Ideal.exp2 (Finset.sum_congr rfl fun d _ => ?_)
    rw [hm.q h r d, keyRows_at, hm.kv _ d (by show 512 * (g 1).val + c.val < _; omega)]
    exact congrArg _ (ext_lt K ⟨512 * (g 1).val + c.val, key_lt g c⟩ d).symm
  · rw [if_neg (by omega), if_neg hle]

/-- A key block taken. -/
theorem mid_share (i : Fin 8) (j : ℕ) (g : grid0.Coords) (hg : (g 0).val = i.val) (hj : (g 1).val = j) (s : Scr Ideal) (hdue : k0_cond3 g = 1#1)
    (hm : Mid K Q sink i (512 * j) s) : Mid K Q sink i (512 * (j + 1)) (step3 g s) := by
  have hw := weight_at i g hg s hm
  unfold step3
  rw [if_pos hdue]
  refine ⟨hm.kv, hm.q, fun h r => ?_, fun h r d => ?_⟩
  · refine (pay9_at g _ _ _ _).trans ?_
    rw [hm.den h r, mul_add, mul_one, Finset.sum_range_add, add_assoc, Finset.sum_range (n := 512)]
    refine congrArg _ (congrArg _ (Finset.sum_congr rfl fun c _ => ?_))
    rw [hw, hj]
  · refine (pay10_at g _ _ _ _ d).trans ?_
    rw [hm.acc h r d, mul_add, mul_one, Finset.sum_range_add, Finset.sum_range (n := 512)]
    refine congrArg _ (Finset.sum_congr rfl fun c _ => ?_)
    rw [hw, hj]
    by_cases hle : 512 * j + c.val ≤ 256 * i.val + r.val
    · rw [keyRows_at, hm.kv _ d (by show 512 * (g 1).val + c.val < _; omega)]
      refine congrArg _ ((ext_lt K ⟨512 * (g 1).val + c.val, key_lt g c⟩ d).symm.trans ?_)
      show ext K (512 * (g 1).val + c.val) d = _
      rw [hj]
    · have hz : weight K (fun d => Q (row i r) (col h d) * qs) (256 * i.val + r.val) (512 * j + c.val) = 0 := if_neg hle
      rw [hz, zero_mul, zero_mul]

end Cert.KernelIdeal.Hand

end
-- ==== Proof.Blocks.lean ====
/- The scratch after every point, and the result block of every query block. -/
module

public import proofs.«01_k».proof.Proof.Inputs
public import proofs.«01_k».proof.Proof.Attend

@[expose] public section

set_option maxRecDepth 16384

noncomputable section

namespace Cert.KernelIdeal.Hand

open Cert.KernelIdeal Cert.KernelIdeal.Gen Idealize.ShloMosaic Idealize.ShloMosaic.TcCoe Idealize.SL.Sem
open Cert.Model

variable (m : (ℓ : Loc nD τ sig) → Buf (Elt Ideal) ℓ) (c : Dev nD)

/-- The input rows. -/
def argX (s k : Fin 2048) : EReal := (m ((c : Thread nD τ).loc main_arg0) : FVec Ideal S1x2048x2048 .f32) (ix3 0 s k)
/-- The first query projection. -/
def argWqd (d : Fin 512) (k : Fin 2048) : EReal := (m ((c : Thread nD τ).loc main_arg1) : FVec Ideal S512x2048 .f32) (ix2 d k)
/-- The query scale. -/
def argGq (d : Fin 512) : EReal := (m ((c : Thread nD τ).loc main_arg2) : FVec Ideal S512 .f32) (ix1 d)
/-- The second query projection. -/
def argWqu (n : Fin 2048) (d : Fin 512) : EReal := (m ((c : Thread nD τ).loc main_arg3) : FVec Ideal S2048x512 .f32) (ix2 n d)
/-- The key/value projection. -/
def argWkv (d : Fin 128) (k : Fin 2048) : EReal := (m ((c : Thread nD τ).loc main_arg4) : FVec Ideal S128x2048 .f32) (ix2 d k)
/-- The key/value scale. -/
def argGkv (d : Fin 128) : EReal := (m ((c : Thread nD τ).loc main_arg5) : FVec Ideal S128 .f32) (ix1 d)
/-- The sinks. -/
def argSink (h : Fin 16) : EReal := (m ((c : Thread nD τ).loc main_arg6) : FVec Ideal S16 .f32) (ix1 h)
/-- The grouped down-projection of the outputs. -/
def argWod (e f : Fin 512) : EReal := (m ((c : Thread nD τ).loc main_arg7) : FVec Ideal S512x512 .f32) (ix2 e f)
/-- The up-projection of the outputs. -/
def argWou (n : Fin 2048) (e : Fin 512) : EReal := (m ((c : Thread nD τ).loc main_arg8) : FVec Ideal S2048x512 .f32) (ix2 n e)

/-- The key/value rows of the arguments. -/
def argK : Fin 2048 → Fin 128 → EReal := keys (argX m c) (argWkv m c) (argGkv m c)
/-- The query rows of the arguments. -/
def argQ : Fin 2048 → Fin 2048 → EReal := query (argX m c) (argWqd m c) (argGq m c) (argWqu m c)

/-- The rounded weights the first point leaves in the scratch. -/
structure Held (s : Scr Ideal) : Prop where
  w16 : s.w16 = (m ((c : Thread nD τ).loc main_arg1) : FVec Ideal S512x2048 .f32)
  w17 : s.w17 = (m ((c : Thread nD τ).loc main_arg3) : FVec Ideal S2048x512 .f32)
  w18 : s.w18 = (m ((c : Thread nD τ).loc main_arg4) : FVec Ideal S128x2048 .f32)
  w19 : s.w19 = (m ((c : Thread nD τ).loc main_arg7) : FVec Ideal S512x512 .f32)
  w20 : s.w20 = (m ((c : Thread nD τ).loc main_arg8) : FVec Ideal S2048x512 .f32)

theorem held_first (t : Fin cfg0.N) (ht : t.val = 0) (s : Scr Ideal) : Held m c (step1 (grid0.coords t) (insAt m c t) s) := by
  unfold step1
  rw [if_pos ((due_first t).mpr ht)]
  exact ⟨(pay1_eq _).trans (in_wqd m c t), (pay2_eq _).trans (in_wqu m c t), (pay3_eq _).trans (in_wkv m c t), (pay4_eq _).trans (in_wod m c t), (pay5_eq _).trans (in_wou m c t)⟩

theorem held_rest (g : grid0.Coords) (x : Ins Ideal) (s : Scr Ideal) (hs : Held m c s) : Held m c (step3 g (step2 g x s)) := by
  have h2 : Held m c (step2 g x s) := by
    unfold step2
    split
    · exact ⟨hs.w16, hs.w17, hs.w18, hs.w19, hs.w20⟩
    · exact hs
  unfold step3
  split
  · exact ⟨h2.w16, h2.w17, h2.w18, h2.w19, h2.w20⟩
  · exact h2

/-- The query block of a point. -/
def blockOf (t : Fin cfg0.N) : Fin 8 := ⟨t.val / 4, by have := lt_N t; omega⟩

/-- Setting up the query block of a point, from the weights and the earlier key rows. -/
theorem start_at (t : Fin cfg0.N) (ht : t.val % 4 = 0) (s : Scr Ideal) (hs : Held m c s)
    (hkv : ∀ (u : Fin 2048) (d : Fin 128), u.val < 256 * (t.val / 4) → (s.kv : FVec Ideal S2048x128 .bf16) (ix2 u d) = argK m c u d) :
    Mid (argK m c) (argQ m c) (argSink m c) (blockOf t) 0 (step2 (grid0.coords t) (insAt m c t) s) := by
  refine mid_start (blockOf t) (grid0.coords t) (coords_val t).1 _ s ((due_setup t).mpr ht) hkv (fun r d => ?_) (fun h r d => ?_) (fun h r => ?_)
  · refine (pay12_at _ _ _ r d).trans ?_
    rw [hs.w18]
    have e1 : (fun (s : Fin 256) (k : Fin 2048) => ((insAt m c t).x2 : FVec Ideal S256x2048 .f32) (ix2 s k)) = fun s k => argX m c (row (blockOf t) s) k :=
      funext fun s => funext fun k => in_x m c t s k
    have e2 : (fun d : Fin 128 => ((insAt m c t).x7 : FVec Ideal S1x128 .f32) (ix2 0 d)) = argGkv m c := funext fun d => in_gkv m c t d
    rw [e1, e2]
    rfl
  · refine (queryBlock_at _ _ _ _ h r d).trans ?_
    rw [hs.w16, hs.w17]
    have e1 : (fun (s : Fin 256) (k : Fin 2048) => ((insAt m c t).x2 : FVec Ideal S256x2048 .f32) (ix2 s k)) = fun s k => argX m c (row (blockOf t) s) k :=
      funext fun s => funext fun k => in_x m c t s k
    have e2 : (fun d : Fin 512 => ((insAt m c t).x4 : FVec Ideal S1x512 .f32) (ix2 0 d)) = argGq m c := funext fun d => in_gq m c t d
    rw [e1, e2]
    rfl
  · refine (sinkBlock_at _ h r).trans ?_
    rw [in_sink m c t h]
    rfl

/-- The scratch after a point: the weights, and the sums over the key blocks taken so far. -/
theorem after_point (n : ℕ) : ∀ t : Fin cfg0.N, t.val = n → Held m c (scrAt m c (t.val + 1))
    ∧ Mid (argK m c) (argQ m c) (argSink m c) (blockOf t) (512 * (min (t.val % 4) (t.val / 4 / 2) + 1)) (scrAt m c (t.val + 1)) := by
  induction n with
  | zero =>
    intro t ht
    rw [scrAt_succ]
    unfold step
    have h1 := held_first m c t ht (scrAt m c t.val)
    have h2 := start_at m c t (by omega) _ h1 (fun u d hu => absurd hu (by omega))
    refine ⟨held_rest m c _ _ _ h1, ?_⟩
    have h3 := mid_share (blockOf t) 0 (grid0.coords t) (coords_val t).1 ((coords_val t).2.trans (by omega)) _ ((due_share t).mpr (by omega)) h2
    have en : min (t.val % 4) (t.val / 4 / 2) + 1 = 0 + 1 := by omega
    rw [en]
    exact h3
  | succ n ih =>
    intro t ht
    have hN := lt_N t
    have hp : n < cfg0.N := lt_of_lt_of_eq (by omega : n < 32) N_0.symm
    obtain ⟨hH, hM⟩ := ih ⟨n, hp⟩ rfl
    have hs : scrAt m c ((⟨n, hp⟩ : Fin cfg0.N).val + 1) = scrAt m c t.val := congrArg (scrAt m c) ht.symm
    rw [hs] at hH hM
    rw [scrAt_succ]
    unfold step
    have e1 : step1 (grid0.coords t) (insAt m c t) (scrAt m c t.val) = scrAt m c t.val := by
      unfold step1
      exact if_neg fun h => by have := (due_first t).mp h; omega
    rw [e1]
    refine ⟨held_rest m c _ _ _ hH, ?_⟩
    by_cases h0 : t.val % 4 = 0
    · have h2 := start_at m c t h0 _ hH (fun u d hu => hM.kv u d (by show u.val < 256 * (n / 4 + 1); omega))
      have h3 := mid_share (blockOf t) 0 (grid0.coords t) (coords_val t).1 ((coords_val t).2.trans h0) _ ((due_share t).mpr (by omega)) h2
      have en : min (t.val % 4) (t.val / 4 / 2) + 1 = 0 + 1 := by omega
      rw [en]
      exact h3
    · have e2 : step2 (grid0.coords t) (insAt m c t) (scrAt m c t.val) = scrAt m c t.val := by
        unfold step2
        exact if_neg fun h => h0 ((due_setup t).mp h)
      rw [e2]
      have eb : blockOf ⟨n, hp⟩ = blockOf t := Fin.ext (show n / 4 = t.val / 4 by omega)
      rw [eb] at hM
      by_cases hd : t.val % 4 ≤ t.val / 4 / 2
      · have en : min ((⟨n, hp⟩ : Fin cfg0.N).val % 4) ((⟨n, hp⟩ : Fin cfg0.N).val / 4 / 2) + 1 = t.val % 4 := by
          show min (n % 4) (n / 4 / 2) + 1 = _
          omega
        rw [en] at hM
        have h3 := mid_share (blockOf t) (t.val % 4) (grid0.coords t) (coords_val t).1 (coords_val t).2 _ ((due_share t).mpr hd) hM
        rw [Nat.min_eq_left hd]
        exact h3
      · have e3 : step3 (grid0.coords t) (scrAt m c t.val) = scrAt m c t.val := by
          unfold step3
          exact if_neg fun h => hd ((due_share t).mp h)
        have en : min ((⟨n, hp⟩ : Fin cfg0.N).val % 4) ((⟨n, hp⟩ : Fin cfg0.N).val / 4 / 2) + 1 = min (t.val % 4) (t.val / 4 / 2) + 1 := by
          show min (n % 4) (n / 4 / 2) + 1 = _
          omega
        rw [e3, ← en]
        exact hM

/-- Past a query's own position the weights are nothing, so a sum that reaches it is the sum over all key rows. -/
theorem sum_reach (s : Fin 2048) (N : ℕ) (hs : s.val < N) (hN : N ≤ 2048) (f : ℕ → EReal) (hf : ∀ t, s.val < t → f t = 0) :
    ∑ t ∈ Finset.range N, f t = ∑ t : Fin 2048, f t.val := by
  rw [← Finset.sum_range]
  refine Finset.sum_subset (Finset.range_subset_range.2 hN) fun t _ h => hf t ?_
  have := Finset.mem_range.not.1 h
  omega

/-- The kernel's attention output. -/
def attend (s : Fin 2048) (h : Fin 16) (d : Fin 128) : EReal :=
  Ideal.div (∑ t : Fin 2048, weight (argK m c) (fun d => argQ m c s (col h d) * qs) s.val t.val * argK m c t d)
    (Ideal.exp2 (argSink m c h * (((Real.log 2)⁻¹ : ℝ) : EReal)) + ∑ t : Fin 2048, weight (argK m c) (fun d => argQ m c s (col h d) * qs) s.val t.val)

/-- A row's attention output from the sums over key rows that reach its position. -/
theorem attend_of_mid (i : Fin 8) (N : ℕ) (s : Scr Ideal) (hM : Mid (argK m c) (argQ m c) (argSink m c) i N s) (h : Fin 16) (r : Fin 256) (d : Fin 128)
    (hr : (row i r).val < N) (hN : N ≤ 2048) :
    Ideal.div ((s.acc : FVec Ideal S4096x128 .f32) (ix2 (stacked h r) d)) ((s.den : FVec Ideal S4096x1 .f32) (ix2 (stacked h r) 0)) = attend m c (row i r) h d := by
  have hz : ∀ u, (row i r).val < u → weight (argK m c) (fun d => argQ m c (row i r) (col h d) * qs) (256 * i.val + r.val) u = 0 :=
    fun u hu => if_neg (Nat.not_le.2 hu)
  rw [hM.acc h r d, hM.den h r]
  unfold attend
  refine congrArg₂ Ideal.div ?_ (congrArg _ ?_)
  · refine (sum_reach (row i r) N hr hN _ (fun u hu => by rw [hz u hu, zero_mul])).trans (Finset.sum_congr rfl fun u _ => ?_)
    rw [ext_lt]
    rfl
  · exact sum_reach (row i r) N hr hN _ hz

/-- The result block written from the sums over all key rows that matter. -/
theorem result_of_mid (i : Fin 8) (N : ℕ) (s : Scr Ideal) (hH : Held m c s) (hM : Mid (argK m c) (argQ m c) (argSink m c) i N s)
    (hlo : 256 * i.val + 255 < N) (hN : N ≤ 2048) (r : Fin 256) (n : Fin 2048) :
    resultBlock (F := Ideal) s.acc s.den s.w19 s.w20 (ix2 r n) = output (attend m c) (argWod m c) (argWou m c) (row i r) n := by
  refine (resultBlock_at _ _ _ _ r n).trans ?_
  have ho : (fun (r : Fin 256) (h : Fin 16) (d : Fin 128) => Ideal.div
      ((s.acc : FVec Ideal S4096x128 .f32) (ix2 (stacked h r) d)) ((s.den : FVec Ideal S4096x1 .f32) (ix2 (stacked h r) 0)))
        = fun r h d => attend m c (row i r) h d := by
    funext r h d
    exact attend_of_mid m c i N s hM h r d (by show 256 * i.val + r.val < N; omega) hN
  have e1 : (fun e f : Fin 512 => (s.w19 : FVec Ideal S512x512 .bf16) (ix2 e f)) = argWod m c := by rw [hH.w19]; rfl
  have e2 : (fun (n : Fin 2048) (e : Fin 512) => (s.w20 : FVec Ideal S2048x512 .bf16) (ix2 n e)) = argWou m c := by rw [hH.w20]; rfl
  refine (congrArg (fun o => output o _ _ r n) ho).trans ?_
  rw [e1, e2]
  rfl

/-- The result block of a point's query block. -/
theorem outBlk_at (t : Fin cfg0.N) (r : Fin 256) (n : Fin 2048) :
    outBlk (F := Ideal) m c t (ix2 r n) = output (attend m c) (argWod m c) (argWou m c) (row (blockOf t) r) n := by
  have hN := lt_N t
  obtain ⟨hH, hM⟩ := after_point m c _ (dueAt t) rfl
  have eb : blockOf (dueAt t) = blockOf t := Fin.ext (show (4 * (t.val / 4) + t.val / 4 / 2) / 4 = t.val / 4 by omega)
  have en : 512 * (min ((dueAt t).val % 4) ((dueAt t).val / 4 / 2) + 1) = 512 * (t.val / 4 / 2 + 1) := by
    show 512 * (min ((4 * (t.val / 4) + t.val / 4 / 2) % 4) ((4 * (t.val / 4) + t.val / 4 / 2) / 4 / 2) + 1) = _
    omega
  rw [eb, en] at hM
  exact result_of_mid m c (blockOf t) _ _ hH hM (by show 256 * (t.val / 4) + 255 < _; omega) (by omega) r n

end Cert.KernelIdeal.Hand

end
-- ==== Proof.Args.lean ====
/- What the precondition says: the arguments that reach the softmax are real numbers. -/
module

public import proofs.«01_k».proof.Defs
public import proofs.«01_k».proof.Proof.Finite
public import proofs.«01_k».proof.Proof.Blocks
public import proofs.«01_k».proof.Proof.Gen.Pre_finite
public import Idealize.ShloMosaic.Lib.ReduceAll
public import Idealize.ShloMosaic.Lib.Pointwise
public import Idealize.ShloMosaic.Lib.WordCmp

@[expose] public section

set_option maxRecDepth 16384

noncomputable section

namespace Cert.Model

open Idealize.ShloMosaic

/-- An extended real whose absolute value is below infinity is a real number. -/
theorem real_of_abs_lt (x : EReal) (h : max x (-x) < ⊤) : ∃ r : ℝ, x = (r : EReal) := by
  induction x with
  | bot => simp at h
  | coe r => exact ⟨r, rfl⟩
  | top => simp at h

/-- A conjunction over a whole array of the comparison with infinity says that every entry is real. -/
theorem reals_of_all {s t u : Shape} [Subsingleton t.Idx] (x : FVec Ideal s .f32) (w : FVec Ideal s .f32) (hw : ∀ i, w i = ⊤) (dims : List (Fin s.rank))
    (init : IVec u 1) (h : s.ReducesTo dims t) (hu : 0 < u.numel) (j : t.Idx)
    (e : Host.reduce IntOp.andi (cmpf .olt (Host.absf x) w) init h hu j = 1#1) (i : s.Idx) : ∃ r : ℝ, x i = (r : EReal) := by
  have e1 := Host.reduce_andi_all _ _ _ _ _ e i
  have e2 : BitVec.ofBool (decide (max (x i) (-(x i)) < w i)) = 1#1 := e1
  rw [WordCmp.ofBool_decide_eq_one_iff, hw] at e2
  exact real_of_abs_lt _ e2

end Cert.Model

namespace Cert.Pre_finite

open Idealize.ShloMosaic Cert.Model
variable [Facts]
open Facts

instance : Subsingleton (Shape.Idx S_) := ⟨fun a b => funext fun k => k.elim0⟩

theorem and_parts {x y : IVec S_ 1} {i : Shape.Idx S_} (e : andi x y i = 1#1) : x i = 1#1 ∧ y i = 1#1 := IntOp.andi_eq_one.1 e

/-- The precondition, argument by argument. -/
theorem fn_reals (a0 : FVec Ideal S1x2048x2048 .f32) (a1 : FVec Ideal S512x2048 .f32) (a2 : FVec Ideal S512 .f32) (a3 : FVec Ideal S2048x512 .f32)
    (a4 : FVec Ideal S128x2048 .f32) (a5 : FVec Ideal S128 .f32) (a6 : FVec Ideal S16 .f32) (a7 : FVec Ideal S512x512 .f32) (a8 : FVec Ideal S2048x512 .f32)
    (e : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have e := congrFun e (fun k => k.elim0)
  unfold fn fn_part1 at e
  dsimp only at e
  obtain ⟨e, e6⟩ := and_parts e
  obtain ⟨e, e5⟩ := and_parts e
  obtain ⟨e, e4⟩ := and_parts e
  obtain ⟨e, e3⟩ := and_parts e
  obtain ⟨e, e2⟩ := and_parts e
  obtain ⟨e0, e1⟩ := and_parts e
  exact ⟨reals_of_all a0 _ (fun _ => ofBits_inf) _ _ _ _ _ e0, reals_of_all a1 _ (fun _ => ofBits_inf) _ _ _ _ _ e1,
    reals_of_all a2 _ (fun _ => ofBits_inf) _ _ _ _ _ e2, reals_of_all a3 _ (fun _ => ofBits_inf) _ _ _ _ _ e3,
    reals_of_all a4 _ (fun _ => ofBits_inf) _ _ _ _ _ e4, reals_of_all a5 _ (fun _ => ofBits_inf) _ _ _ _ _ e5,
    reals_of_all a6 _ (fun _ => ofBits_inf) _ _ _ _ _ e6⟩

end Cert.Pre_finite

namespace Cert.KernelIdeal.Hand

open Cert.KernelIdeal Idealize.ShloMosaic Idealize.ShloMosaic.TcCoe Idealize.SL.Sem
open Cert.Model

/-- Under the precondition the key rows, the query rows and the sinks are real. -/
theorem reals_of_pre [Cert.Pre_finite.Facts] (m : (ℓ : Loc nD τ sig) → Buf (Elt Ideal) ℓ) (hpre : Cert.Pre_KernelIdeal_finite m) (c : Dev nD) :
    Reals₂ (argK m c) ∧ Reals₂ (argQ m c) ∧ Reals (argSink m c) := by
  obtain ⟨r0, r1, r2, r3, r4, r5, r6⟩ := Cert.Pre_finite.fn_reals _ _ _ _ _ _ _ _ _ (hpre c)
  have hx : Reals₂ (argX m c) := fun s k => r0 (ix3 0 s k)
  exact ⟨keys_reals hx (fun d k => r4 (ix2 d k)) (fun d => r5 (ix1 d)),
    query_reals hx (fun d k => r1 (ix2 d k)) (fun d => r2 (ix1 d)) (fun n d => r3 (ix2 n d)), fun h => r6 (ix1 h)⟩

end Cert.KernelIdeal.Hand

end
-- ==== Proof.Largest.lean ====
/- The largest entry along the last axis of an array is a real number under mild conditions. -/
module

public import Idealize.ShloMosaic.PureOps.Ideal
public import Idealize.ShloMosaic.Lib.Pointwise

@[expose] public section

namespace Cert.Model

open Idealize.ShloMosaic

/-- The fold by `max` over a list is at least its start. -/
theorem le_foldl_max_init {ι : Type} (f : ι → EReal) : ∀ (L : List ι) (b : EReal), b ≤ L.foldl (fun r n => max r (f n)) b
  | [], _ => le_rfl
  | a :: L, b => (le_max_left b (f a)).trans (le_foldl_max_init f L _)

/-- The fold by `max` over a list is at least each entry. -/
theorem le_foldl_max {ι : Type} (f : ι → EReal) : ∀ (L : List ι) (b : EReal) (n : ι), n ∈ L → f n ≤ L.foldl (fun r n => max r (f n)) b
  | a :: L, b, n, hn => by
    rcases List.mem_cons.1 hn with rfl | hn
    · exact (le_max_right b (f n)).trans (le_foldl_max_init f L _)
    · exact le_foldl_max f L _ n hn

/-- The fold by `max` over a list stays below `⊤` when its start and every entry do. -/
theorem foldl_max_ne_top {ι : Type} (f : ι → EReal) : ∀ (L : List ι) (b : EReal), b ≠ ⊤ → (∀ n ∈ L, f n ≠ ⊤) →
    L.foldl (fun r n => max r (f n)) b ≠ ⊤
  | [], _, hb, _ => hb
  | a :: L, b, hb, hf => foldl_max_ne_top f L _ (by
      show max b (f a) ≠ ⊤
      rcases max_choice b (f a) with h | h <;> rw [h]
      · exact hb
      · exact hf a (List.mem_cons_self ..)) fun n hn => hf n (List.mem_cons_of_mem _ hn)

/-- A reduction by `max` is a real number when what it folds stays below `⊤` and something it folds is above `⊥`. -/
theorem reduce_max_real {s t u : Shape} {axes : List (Fin s.rank)} (x : s.Idx → EReal) (init : u.Idx → EReal) (h : s.ReducesTo axes t)
    (hu : 0 < u.numel) (j : t.Idx) (hi : init (Shape.Idx.first hu) ≠ ⊤) (htop : ∀ i, h.drop i = j → x i ≠ ⊤) (i₀ : s.Idx) (h₀ : h.drop i₀ = j)
    (hb : x i₀ ≠ ⊥) : ∃ μ : ℝ, Host.reduce max x init h hu j = (μ : EReal) := by
  have htop' : Host.reduce max x init h hu j ≠ ⊤ := foldl_max_ne_top (fun n => x (s.rowMajor.symm n)) _ _ hi fun n hn =>
    htop _ (by simpa using (List.mem_filter.1 hn).2)
  have hbot : x i₀ ≤ Host.reduce max x init h hu j := by
    have := le_foldl_max (fun n => x (s.rowMajor.symm n)) ((List.finRange s.numel).filter fun n => h.drop (s.rowMajor.symm n) = j)
      (init (Shape.Idx.first hu)) (s.rowMajor i₀) (List.mem_filter.2 ⟨List.mem_finRange _, by simp [h₀]⟩)
    rw [Equiv.symm_apply_apply] at this
    exact this
  exact ⟨_, (EReal.coe_toReal htop' fun e => hb (le_bot_iff.1 (e ▸ hbot))).symm⟩

/-- The same along the last axis of a four-axis array. -/
theorem reduce_last_real {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2)
    (hi : init (Shape.Idx.first hu) ≠ ⊤) (k₀ : Fin n3) (hb : x (ix4 a b c k₀) ≠ ⊥) (htop : ∀ k, x (ix4 a b c k) ≠ ⊤) :
    ∃ μ : ℝ, Host.reduce max x init h hu (ix3 a b c) = (μ : EReal) :=
  reduce_max_real x init h hu (ix3 a b c) hi
    (fun i hd => by
      obtain ⟨k, rfl⟩ := (h.fiber_r4_a3 _ i).1 hd
      exact htop k) (ix4 a b c k₀) ((h.fiber_r4_a3 _ _).2 ⟨k₀, rfl⟩) hb

/-- The larger of `⊥` and the largest entry along the last axis, as the reference spells it. -/
theorem largest_last_real {n0 n1 n2 n3 : ℕ} {u : Shape} (x : FVec Ideal ⟨4, ![n0, n1, n2, n3]⟩ .f32) (b : FVec Ideal ⟨3, ![n0, n1, n2]⟩ .f32)
    (init : FVec Ideal u .f32) (h : (⟨4, ![n0, n1, n2, n3]⟩ : Shape).ReducesTo [3] ⟨3, ![n0, n1, n2]⟩) (hu : 0 < u.numel) (i : Fin n0) (j : Fin n1)
    (k : Fin n2) (hbot : b (ix3 i j k) = (⊥ : EReal)) (hi : init (Shape.Idx.first hu) = (⊥ : EReal)) (k₀ : Fin n3) (hb : x (ix4 i j k k₀) ≠ (⊥ : EReal))
    (htop : ∀ l, x (ix4 i j k l) ≠ (⊤ : EReal)) :
    ∃ μ : ℝ, maximumf b (Host.reduce FloatOps.maximumf x init h hu) (ix3 i j k) = (μ : EReal) := by
  obtain ⟨μ, hμ⟩ := reduce_last_real x init h hu i j k (hi ▸ bot_ne_top) k₀ hb htop
  refine ⟨μ, ?_⟩
  have e : maximumf b (Host.reduce FloatOps.maximumf x init h hu) (ix3 i j k)
      = max (b (ix3 i j k)) (Host.reduce max x init h hu (ix3 i j k)) := rfl
  rw [e, hbot, hμ, max_eq_right bot_le]

end Cert.Model
-- ==== Proof.RefValue.lean ====
/- The reference's result, stage by stage, read at an index. -/
module

public import proofs.«01_k».proof.Proof.Model
public import proofs.«01_k».proof.Proof.Largest
public import proofs.«01_k».proof.Proof.Consts
public import Idealize.ShloMosaic.Lib.WordCmp
public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-! ## The stages as the program spells them -/

def kvRaw (x : FVec Ideal S1x2048x2048 .f32) (wkv : FVec Ideal S128x2048 .f32) : FVec Ideal S1x2048x128 .f32 :=
  Host.dotGeneral dot_S1x2048x2048_S2048x128_S1x2048x128_2_0_01_1_n_n none x (transpose S2048x128 [1, 0] wkv transposes_S128x2048_S2048x128_1_0)

def kvRows (r : FVec Ideal S1x2048x128 .f32) (gkv : FVec Ideal S128 .f32) : FVec Ideal S1x2048x128 .f32 :=
  mulf (mulf r (broadcastInDim S1x2048x128 ![0, 1, 2] bcast_S1x2048x1_S1x2048x128_0_1_2 (Host.rsqrt (addf (Host.divf (broadcastInDim S1x2048x1 ![0, 1] bcast_S1x2048_S1x2048x1_0_1 (Host.reduceAdd (mulf r r) (constant S_ .f32 0x00000000#32) reducesTo_S1x2048x128_S1x2048_d2 h_S_)) (broadcastInDim S1x2048x1 ![] bcast_S_S1x2048x1 (constant S_ .f32 0x43000000#32))) (broadcastInDim S1x2048x1 ![] bcast_S_S1x2048x1 (constant S_ .f32 0x358637BD#32)))))) (broadcastInDim S1x2048x128 ![0, 1, 2] bcast_S1x1x128_S1x2048x128_0_1_2 (broadcastInDim S1x1x128 ![2] bcast_S128_S1x1x128_2 gkv))

def qRaw (x : FVec Ideal S1x2048x2048 .f32) (wqd : FVec Ideal S512x2048 .f32) : FVec Ideal S1x2048x512 .f32 :=
  Host.dotGeneral dot_S1x2048x2048_S2048x512_S1x2048x512_2_0_01_1_n_n none x (transpose S2048x512 [1, 0] wqd transposes_S512x2048_S2048x512_1_0)

def qRows (r : FVec Ideal S1x2048x512 .f32) (gq : FVec Ideal S512 .f32) : FVec Ideal S1x2048x512 .f32 :=
  mulf (mulf r (broadcastInDim S1x2048x512 ![0, 1, 2] bcast_S1x2048x1_S1x2048x512_0_1_2 (Host.rsqrt (addf (Host.divf (broadcastInDim S1x2048x1 ![0, 1] bcast_S1x2048_S1x2048x1_0_1 (Host.reduceAdd (mulf r r) (constant S_ .f32 0x00000000#32) reducesTo_S1x2048x512_S1x2048_d2 h_S_)) (broadcastInDim S1x2048x1 ![] bcast_S_S1x2048x1 (constant S_ .f32 0x44000000#32))) (broadcastInDim S1x2048x1 ![] bcast_S_S1x2048x1 (constant S_ .f32 0x358637BD#32)))))) (broadcastInDim S1x2048x512 ![0, 1, 2] bcast_S1x1x512_S1x2048x512_0_1_2 (broadcastInDim S1x1x512 ![2] bcast_S512_S1x1x512_2 gq))

def heads (r : FVec Ideal S1x2048x512 .f32) (wqu : FVec Ideal S2048x512 .f32) : FVec Ideal S1x2048x16x128 .f32 :=
  shapeCast _ (Host.dotGeneral dot_S1x2048x512_S512x2048_S1x2048x2048_2_0_01_1_n_n none r (transpose S512x2048 [1, 0] wqu transposes_S2048x512_S512x2048_1_0)) shapeCasts_S1x2048x2048_S1x2048x16x128

/-- The sink's score and the masked scores, side by side. -/
def scores (sink : FVec Ideal S16 .f32) (kv : FVec Ideal S1x2048x128 .f32) (q : FVec Ideal S1x2048x16x128 .f32) : FVec Ideal S1x16x2048x2049 .f32 :=
  concatenate S1x16x2048x2049 3 [⟨S1x16x2048x1, (broadcastInDim S1x16x2048x1 ![0, 1, 2, 3] bcast_S1x16x1x1_S1x16x2048x1_0_1_2_3 (shapeCast _ sink shapeCasts_S16_S1x16x1x1))⟩, ⟨S1x16x2048x2048, (select (broadcastInDim S1x16x2048x2048 ![0, 1, 2, 3] bcast_S1x1x2048x2048_S1x16x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))) (mulf (transpose S1x16x2048x2048 [0, 3, 2, 1] (Host.dotGeneral dot_S1x2048x128_S1x2048x16x128_S1x2048x2048x16_2_3_1_12_0_0 none kv q) transposes_S1x2048x2048x16_S1x16x2048x2048_0_3_2_1) (broadcastInDim S1x16x2048x2048 ![] bcast_S_S1x16x2048x2048 (Host.divf (constant S_ .f32 0x3F800000#32) (Host.sqrt (constant S_ .f32 0x43000000#32))))) (broadcastInDim S1x16x2048x2048 ![] bcast_S_S1x16x2048x2048 (id (constant S_ .f32 0xFF800000#32))))⟩] concatenates_S1x16x2048x1_S1x16x2048x2048_S1x16x2048x2049_d3

/-- The largest score of each row. -/
def largest (l : FVec Ideal S1x16x2048x2049 .f32) : FVec Ideal S1x16x2048 .f32 :=
  maximumf (broadcastInDim S1x16x2048 ![] bcast_S_S1x16x2048 (constant S_ .f32 0xFF800000#32)) (Host.reduce FloatOps.maximumf l (constant S_ .f32 0xFF800000#32) reducesTo_S1x16x2048x2049_S1x16x2048_d3 h_S_)

/-- The exponentials of the scores less their row's largest. -/
def exps (l : FVec Ideal S1x16x2048x2049 .f32) (M : FVec Ideal S1x16x2048 .f32) : FVec Ideal S1x16x2048x2049 .f32 :=
  Host.exp (subf l (broadcastInDim S1x16x2048x2049 ![0, 1, 2, 3] bcast_S1x16x2048x1_S1x16x2048x2049_0_1_2_3 (broadcastInDim S1x16x2048x1 ![0, 1, 2] bcast_S1x16x2048_S1x16x2048x1_0_1_2 M)))

/-- The probabilities, the sink's dropped. -/
def probs (e : FVec Ideal S1x16x2048x2049 .f32) : FVec Ideal S1x16x2048x2048 .f32 :=
  extractStridedSlice S1x16x2048x2048 ![0, 0, 0, 1] (Host.divf e (broadcastInDim S1x16x2048x2049 ![0, 1, 2, 3] bcast_S1x16x2048x1_S1x16x2048x2049_0_1_2_3 (broadcastInDim S1x16x2048x1 ![0, 1, 2] bcast_S1x16x2048_S1x16x2048x1_0_1_2 (Host.reduceAdd e (constant S_ .f32 0x00000000#32) reducesTo_S1x16x2048x2049_S1x16x2048_d3 h_S_)))) slices_S1x16x2048x2049_S1x16x2048x2048_0_0_0_1

def attended (kv : FVec Ideal S1x2048x128 .f32) (p : FVec Ideal S1x16x2048x2048 .f32) : FVec Ideal S1x2048x16x128 .f32 :=
  transpose S1x2048x16x128 [0, 3, 2, 1] (Host.dotGeneral dot_S1x2048x128_S1x16x2048x2048_S1x128x16x2048_1_3_2_12_0_0 none kv p) transposes_S1x128x16x2048_S1x2048x16x128_0_3_2_1

def groups (o : FVec Ideal S1x2048x16x128 .f32) (wod : FVec Ideal S512x512 .f32) : FVec Ideal S1x2048x512 .f32 :=
  shapeCast _ (transpose S1x2048x4x128 [2, 3, 0, 1] (Host.dotGeneral dot_S4x128x512_S1x2048x4x512_S4x128x1x2048_2_3_1_01_0_2 none (shapeCast _ wod shapeCasts_S512x512_S4x128x512) (shapeCast _ o shapeCasts_S1x2048x16x128_S1x2048x4x512)) transposes_S4x128x1x2048_S1x2048x4x128_2_3_0_1) shapeCasts_S1x2048x4x128_S1x2048x512

def result (z : FVec Ideal S1x2048x512 .f32) (wou : FVec Ideal S2048x512 .f32) : FVec Ideal S1x2048x2048 .f32 :=
  Host.dotGeneral dot_S1x2048x512_S512x2048_S1x2048x2048_2_0_01_1_n_n none z (transpose S512x2048 [1, 0] wou transposes_S2048x512_S512x2048_1_0)

/-- The stages composed. -/
def whole (x : FVec Ideal S1x2048x2048 .f32) (wqd : FVec Ideal S512x2048 .f32) (gq : FVec Ideal S512 .f32) (wqu : FVec Ideal S2048x512 .f32)
    (wkv : FVec Ideal S128x2048 .f32) (gkv : FVec Ideal S128 .f32) (sink : FVec Ideal S16 .f32) (wod : FVec Ideal S512x512 .f32)
    (wou : FVec Ideal S2048x512 .f32) : FVec Ideal S1x2048x2048 .f32 :=
  let kv := kvRows (kvRaw x wkv) gkv
  let q := heads (qRows (qRaw x wqd) gq) wqu
  let l := scores sink kv q
  let e := exps l (largest l)
  result (groups (attended kv (probs e)) wod) wou

set_option maxHeartbeats 1600000 in
theorem run_whole (m : (ℓ : Loc nD τ sig) → Buf (Elt Ideal) ℓ) (c : Dev nD) :
    Cert.ReferenceIdeal.Value.res_out0 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := rfl

/-! ## The stages at an index -/

open Cert.Model

theorem kvRows_at (x : FVec Ideal S1x2048x2048 .f32) (wkv : FVec Ideal S128x2048 .f32) (gkv : FVec Ideal S128 .f32) (s : Fin 2048) (d : Fin 128) :
    kvRows (kvRaw x wkv) gkv (ix3 0 s d) = keys (fun s k => x (ix3 0 s k)) (fun d k => wkv (ix2 d k)) (fun d => gkv (ix1 d)) s d := by
  pointwise [kvRows, kvRaw, keys, rms, proj]

theorem heads_at (x : FVec Ideal S1x2048x2048 .f32) (wqd : FVec Ideal S512x2048 .f32) (gq : FVec Ideal S512 .f32) (wqu : FVec Ideal S2048x512 .f32)
    (s : Fin 2048) (h : Fin 16) (d : Fin 128) :
    heads (qRows (qRaw x wqd) gq) wqu (ix4 0 s h d)
      = query (fun s k => x (ix3 0 s k)) (fun d k => wqd (ix2 d k)) (fun d => gq (ix1 d)) (fun d k => wqu (ix2 d k)) s (col h d) := by
  pointwise [heads, qRows, qRaw, query, lowQuery, rms, proj, col]

theorem scores_sink (sink : FVec Ideal S16 .f32) (kv : FVec Ideal S1x2048x128 .f32) (q : FVec Ideal S1x2048x16x128 .f32) (h : Fin 16) (s : Fin 2048) :
    scores sink kv q (ix4 0 h s 0) = sink (ix1 h) := by
  pointwise [scores]

theorem scores_key (sink : FVec Ideal S16 .f32) (kv : FVec Ideal S1x2048x128 .f32) (q : FVec Ideal S1x2048x16x128 .f32) (h : Fin 16) (s t : Fin 2048) :
    scores sink kv q (ix4 0 h s t.succ) = if t ≤ s then (∑ d : Fin 128, kv (ix3 0 t d) * q (ix4 0 s h d)) * Ideal.div 1 (Ideal.sqrt (Ideal.ofBits .f32 0x43000000#32)) else ⊥ := by
  pointwise [scores]
  rw [dif_neg (by simp)]
  have hw : IntOp.cmpi .sge (IntOp.addi (BitVec.ofNat 32 s.val) 0#32) (BitVec.ofNat 32 (t.succ.val - 1)) = BitVec.ofBool (decide (t ≤ s)) := by
    have h0 : IntOp.addi (BitVec.ofNat 32 s.val) 0#32 = BitVec.ofNat 32 s.val := BitVec.add_zero _
    rw [h0, Fin.val_succ, Nat.add_sub_cancel, WordCmp.cmpi_sge_ofNat (by omega) (by omega)]
    rfl
  rw [hw]
  by_cases hts : t ≤ s
  · simp only [hts, decide_true, if_true]
    rfl
  · simp only [hts, decide_false, if_false]
    exact Cert.Model.ofBits_neg_inf

/-- Every row has a largest entry, a real number when the sink's score is real and no score is infinite upwards. -/
theorem largest_real (l : FVec Ideal S1x16x2048x2049 .f32) (h : Fin 16) (s : Fin 2048) (h0 : l (ix4 0 h s 0) ≠ ⊥) (ht : ∀ k, l (ix4 0 h s k) ≠ ⊤) :
    ∃ μ : ℝ, largest l (ix3 0 h s) = (μ : EReal) :=
  Cert.Model.largest_last_real l _ _ reducesTo_S1x16x2048x2049_S1x16x2048_d3 h_S_ 0 h s Cert.Model.ofBits_neg_inf Cert.Model.ofBits_neg_inf 0 h0 ht

theorem exps_at (l : FVec Ideal S1x16x2048x2049 .f32) (M : FVec Ideal S1x16x2048 .f32) (h : Fin 16) (s : Fin 2048) (k : Fin 2049) :
    exps l M (ix4 0 h s k) = Ideal.exp (l (ix4 0 h s k) - M (ix3 0 h s)) := by
  pointwise [exps]

theorem probs_at (e : FVec Ideal S1x16x2048x2049 .f32) (h : Fin 16) (s t : Fin 2048) :
    probs e (ix4 0 h s t) = Ideal.div (e (ix4 0 h s t.succ)) (∑ k : Fin 2049, e (ix4 0 h s k)) := by
  pointwise [probs]
  rw [show (⟨1 + t.val, by omega⟩ : Fin 2049) = t.succ from Fin.ext (Nat.add_comm 1 t.val)]

theorem attended_at (kv : FVec Ideal S1x2048x128 .f32) (p : FVec Ideal S1x16x2048x2048 .f32) (s : Fin 2048) (h : Fin 16) (d : Fin 128) :
    attended kv p (ix4 0 s h d) = ∑ t : Fin 2048, kv (ix3 0 t d) * p (ix4 0 h s t) := by
  pointwise [attended]

theorem result_at (o : FVec Ideal S1x2048x16x128 .f32) (wod : FVec Ideal S512x512 .f32) (wou : FVec Ideal S2048x512 .f32) (s n : Fin 2048) :
    result (groups o wod) wou (ix3 0 s n) = output (fun s h d => o (ix4 0 s h d)) (fun c f => wod (ix2 c f)) (fun n c => wou (ix2 n c)) s n := by
  pointwise [result, groups, output, grouped, proj]
  refine Finset.sum_congr rfl fun c _ => congrArg (· * _) (Finset.sum_congr rfl fun f _ => mul_comm _ _)

end Cert.ReferenceIdeal.Stages

end
-- ==== Proof.Equal.lean ====
/- The reference's attention and the kernel's are one function of real keys, queries and sinks. -/
module

public import proofs.«01_k».proof.Proof.Finite
public import proofs.«01_k».proof.Proof.Attend
public import proofs.«01_k».proof.Proof.RefValue

@[expose] public section

set_option maxRecDepth 16384

noncomputable section

namespace Cert.Model

open Idealize.ShloMosaic
open Cert.KernelIdeal.Hand (weight ext ext_lt qs)

/-- A masked score that is a real number where it counts. -/
theorem scores_real {n : ℕ} {K : Fin n → Fin 128 → EReal} {q : Fin 128 → EReal} (hK : Reals₂ K) (hq : Reals q) :
    ∃ l : Fin n → ℝ, ∀ t, (∑ d, K t d * q d) * Ideal.div 1 (Ideal.sqrt (Ideal.ofBits .f32 0x43000000#32)) = (l t : EReal)
      ∧ Ideal.exp2 (∑ d, q d * qs * K t d) = Ideal.exp (l t : EReal) := by
  choose k hk using hK
  choose r hr using hq
  refine ⟨fun t => (∑ d, k t d * r d) * (Real.sqrt 128)⁻¹, fun t => ⟨?_, ?_⟩⟩
  · simp only [hk, hr, ← EReal.coe_mul]
    rw [coe_sum, scale_eq, ← EReal.coe_mul]
  · simp only [hk, hr]
    exact exp2_qscale r (k t)

/-- The attention of one query row: the reference's form, from the scores `L` (the sink's first), and the kernel's. -/
theorem attend_row (K : Fin 2048 → Fin 128 → EReal) (q : Fin 128 → EReal) (a : EReal) (s : Fin 2048) (hK : Reals₂ K) (hq : Reals q)
    (ha : ∃ r : ℝ, a = (r : EReal)) (L : Fin 2049 → EReal) (M : EReal) (hM : (L 0 ≠ ⊥) → (∀ k, L k ≠ ⊤) → ∃ μ : ℝ, M = (μ : EReal)) (hL0 : L 0 = a)
    (hL : ∀ t : Fin 2048, L t.succ = if t ≤ s then (∑ d, K t d * q d) * Ideal.div 1 (Ideal.sqrt (Ideal.ofBits .f32 0x43000000#32)) else ⊥) (d : Fin 128) :
    ∑ t, K t d * Ideal.div (Ideal.exp (L t.succ - M)) (∑ k, Ideal.exp (L k - M))
      = Ideal.div (∑ t : Fin 2048, weight K (fun d => q d * qs) s.val t.val * K t d)
          (Ideal.exp2 (a * (((Real.log 2)⁻¹ : ℝ) : EReal)) + ∑ t : Fin 2048, weight K (fun d => q d * qs) s.val t.val) := by
  obtain ⟨l, hl⟩ := scores_real hK hq
  obtain ⟨a', rfl⟩ := ha
  have hL' : ∀ t : Fin 2048, L t.succ = if t ≤ s then (l t : EReal) else ⊥ := fun t => by rw [hL t, (hl t).1]
  have hw : ∀ t : Fin 2048, weight K (fun d => q d * qs) s.val t.val = if t ≤ s then Ideal.exp (l t : EReal) else 0 := fun t => by
    unfold weight
    simp only [ext_lt]
    rw [(hl t).2]
    rfl
  obtain ⟨μ, rfl⟩ := hM (by rw [hL0]; exact EReal.coe_ne_bot _) (fun k => by
    refine Fin.cases ?_ (fun t => ?_) k
    · rw [hL0]; exact EReal.coe_ne_top _
    · rw [hL' t]
      split
      · exact EReal.coe_ne_top _
      · exact bot_ne_top)
  choose k hk using hK
  have hv : ∀ t, K t d = (k t d : EReal) := fun t => hk t d
  have hsum : ∑ k, Ideal.exp (L k - (μ : EReal)) = Ideal.exp (L 0 - (μ : EReal)) + ∑ t : Fin 2048, Ideal.exp (L t.succ - (μ : EReal)) := Fin.sum_univ_succ _
  rw [hsum, hL0, exp2_log2e]
  simp only [hL', hw, hv]
  exact softmax_shift a' μ l (fun t => k t d) (fun t => t ≤ s)

end Cert.Model

namespace Cert.ReferenceIdeal.Stages

open Cert.ReferenceIdeal Idealize.ShloMosaic Cert.Model
open Cert.KernelIdeal.Hand (weight qs)

/-- The reference's result, entry by entry, in the kernel's form. -/
theorem whole_at (x : FVec Ideal S1x2048x2048 .f32) (wqd : FVec Ideal S512x2048 .f32) (gq : FVec Ideal S512 .f32) (wqu : FVec Ideal S2048x512 .f32)
    (wkv : FVec Ideal S128x2048 .f32) (gkv : FVec Ideal S128 .f32) (sink : FVec Ideal S16 .f32) (wod : FVec Ideal S512x512 .f32)
    (wou : FVec Ideal S2048x512 .f32) (K : Fin 2048 → Fin 128 → EReal) (Q : Fin 2048 → Fin 2048 → EReal)
    (eK : keys (fun s k => x (ix3 0 s k)) (fun d k => wkv (ix2 d k)) (fun d => gkv (ix1 d)) = K)
    (eQ : query (fun s k => x (ix3 0 s k)) (fun d k => wqd (ix2 d k)) (fun d => gq (ix1 d)) (fun d k => wqu (ix2 d k)) = Q)
    (hK : Reals₂ K) (hQ : Reals₂ Q) (hs : Reals fun h : Fin 16 => sink (ix1 h)) (s n : Fin 2048) :
    whole x wqd gq wqu wkv gkv sink wod wou (ix3 0 s n)
      = output (fun s h d => Ideal.div (∑ t : Fin 2048, weight K (fun d => Q s (col h d) * qs) s.val t.val * K t d)
          (Ideal.exp2 (sink (ix1 h) * (((Real.log 2)⁻¹ : ℝ) : EReal)) + ∑ t : Fin 2048, weight K (fun d => Q s (col h d) * qs) s.val t.val))
          (fun c f => wod (ix2 c f)) (fun n c => wou (ix2 n c)) s n := by
  unfold whole
  refine (result_at _ wod wou s n).trans ?_
  refine congrArg (fun o => output o (fun c f => wod (ix2 c f)) (fun n c => wou (ix2 n c)) s n) ?_
  funext s h d
  have hkv : ∀ t d, kvRows (kvRaw x wkv) gkv (ix3 0 t d) = K t d := fun t d => by rw [kvRows_at, eK]
  have hq : ∀ s h d, heads (qRows (qRaw x wqd) gq) wqu (ix4 0 s h d) = Q s (col h d) := fun s h d => by rw [heads_at, eQ]
  generalize kvRows (kvRaw x wkv) gkv = kv at hkv ⊢
  generalize heads (qRows (qRaw x wqd) gq) wqu = q at hq ⊢
  refine (attended_at _ _ s h d).trans ?_
  have hL0 := scores_sink sink kv q h s
  have hL : ∀ t : Fin 2048, scores sink kv q (ix4 0 h s t.succ)
      = if t ≤ s then (∑ d : Fin 128, K t d * Q s (col h d)) * Ideal.div 1 (Ideal.sqrt (Ideal.ofBits .f32 0x43000000#32)) else ⊥ := fun t => by
    rw [scores_key]
    simp only [hkv, hq]
  generalize scores sink kv q = l at hL0 hL ⊢
  refine (Finset.sum_congr rfl fun t _ => ?_).trans
    (attend_row K (fun d => Q s (col h d)) (sink (ix1 h)) s hK (fun d => hQ s (col h d)) (hs h) (fun k => l (ix4 0 h s k)) (largest l (ix3 0 h s))
      (largest_real l h s) hL0 hL d)
  rw [hkv, probs_at]
  simp only [exps_at]

end Cert.ReferenceIdeal.Stages

end
-- ==== Proof.Result.lean ====
/- The kernel's result, in the arguments' coordinates. -/
module

public import proofs.«01_k».proof.Proof.Blocks

@[expose] public section

set_option maxRecDepth 16384

noncomputable section

namespace Cert.KernelIdeal.Hand

open Cert.KernelIdeal Cert.KernelIdeal.Gen Idealize.ShloMosaic Idealize.ShloMosaic.TcCoe Idealize.SL.Sem
open Cert.Model

variable (m : (ℓ : Loc nD τ sig) → Buf (Elt Ideal) ℓ) (c : Dev nD) (ρ : Dev nD → PrngReg)

/-- The array the pipeline writes. -/
def flatResult : FVec Ideal S2048x2048 .f32 := fun i => output (attend m c) (argWod m c) (argWou m c) (i 0) (i 1)

/-- The kernel's result. -/
def kernelResult : FVec Ideal S1x2048x2048 .f32 := fun i => output (attend m c) (argWod m c) (argWou m c) (i 1) (i 2)

theorem flat_eq (i : Shape.Idx S2048x2048) (s n : Fin 2048) (h0 : (i 0).val = s.val) (h1 : (i 1).val = n.val) :
    flatResult m c i = output (attend m c) (argWod m c) (argWou m c) s n := by
  have e0 : i 0 = s := Fin.ext h0
  have e1 : i 1 = n := Fin.ext h1
  unfold flatResult
  rw [e0, e1]

/-- What the pipeline's result array ends holding. -/
theorem final : (dats m 0 c).arrAt 9 (cfgs 0).N = flatResult m c := by
  refine (dats m 0 c).arrAt_eq_of_covers 9 _ (by decide +kernel) fun t hf y => ?_
  blk_simp
  rw [after0_9]
  refine Eq.trans (b := outBlk (F := Ideal) m c t (ix2 (y 0) (y 1))) (congrArg _ (by idx_ext)) ?_
  refine (outBlk_at m c t (y 0) (y 1)).trans (flat_eq m c _ _ _ ?_ ?_).symm
  · blk_simp [idx t]
    show _ = 256 * (t.val / 4) + (y 0).val
    omega
  · blk_simp [idx t]

theorem result_run : θ_run defs (onTc (τ := τ) (main (F := Ideal))) (s₀ m ρ) (fun r => ∀ c : Dev nD,
    r.2.mem ((c.tc : Thread nD τ).loc main_v0) = kernelResult m c) := by
  have hrun := (θ_run defs _ _).mono (fun _ h => h.1) (run_quiescent m ρ)
  run_from hrun
  show StableHlo.after (hostOps1 ++ []) (Pipeline.withArrays (cfgs 0).spec c (V0 m c) fun w => (dats m 0 c).arrAt w (cfgs 0).N) (Proc.devRef .tc main_v0) = _
  rw [List.append_nil]
  after_results
  have hw : Pipeline.withArrays (cfgs 0).spec c (V0 m c) (fun w => (dats m 0 c).arrAt w (cfgs 0).N) (Proc.devRef .tc main_call0_v4) = flatResult m c :=
    (Pipeline.withArrays_arr (cfgs 0).spec winFacts0.arr_inj c (V0 m c) (fun w => (dats m 0 c).arrAt w (cfgs 0).N) 9).trans (final m c)
  refine (congrArg (fun x : FVec Ideal S2048x2048 .f32 => shapeCast S1x2048x2048 x shapeCasts_S2048x2048_S1x2048x2048) hw).trans ?_
  funext i
  pointwise [flatResult, kernelResult]

end Cert.KernelIdeal.Hand

end
-- ==== Proof.Value.lean ====
/- The value claim: from arguments that agree and are finite, the kernel and the reference end with one result. -/
module

public import proofs.«01_k».proof.Proof.Args
public import proofs.«01_k».proof.Proof.Equal
public import proofs.«01_k».proof.Proof.Result
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem
open Cert.Model Cert.KernelIdeal.Hand

/-- The reference's term over the kernel's arguments is the kernel's result. -/
theorem results_agree [Cert.Pre_finite.Facts] (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.ReferenceIdeal.Stages.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = kernelResult m c := by
  obtain ⟨hK, hQ, hs⟩ := reals_of_pre m hpre c
  funext i
  have hi : i = ix3 0 (i 1) (i 2) := by idx_ext
  rw [hi]
  exact Cert.ReferenceIdeal.Stages.whole_at _ _ _ _ _ _ _ _ _ (argK m c) (argQ m c) rfl rfl hK hQ hs (i 1) (i 2)

/-- The value claim. -/
theorem algebraic : Cert.algebraic_KernelIdeal_ReferenceIdeal_pre_finite := by
  intro m g m' g' hpre hagree
  refine ⟨fun c => kernelResult m c, ?_, ?_⟩
  · exact (θ_run Cert.KernelIdeal.defs _ _).mono (fun r h c => ⟨h.1 c, h.2.1 c⟩) (θ_run_and (result_run m g) (frame m g))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8⟩ := hagree c
    refine (Cert.ReferenceIdeal.Stages.run_whole m' c).trans ?_
    rw [e0, e1, e2, e3, e4, e5, e6, e7, e8]
    exact results_agree m hpre c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Claims
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims together. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    named_constants, algebraic⟩

end Cert.Proof

end
